-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_v146) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S65536x32 : Shape := ⟨2, ![65536, 32]⟩
abbrev S16x256 : Shape := ⟨2, ![16, 256]⟩
abbrev S256 : Shape := ⟨1, ![256]⟩
abbrev S256x256 : Shape := ⟨2, ![256, 256]⟩
abbrev S256x368 : Shape := ⟨2, ![256, 368]⟩
abbrev S368 : Shape := ⟨1, ![368]⟩
abbrev S_ : Shape := ⟨0, ![]⟩

class Facts : Prop where
  bcast_S_S65536x32 : S_.BroadcastsInDim S65536x32 (![] : Fin 0 → Fin S65536x32.rank)
  reducesTo_S65536x32_S_d0_1 : S65536x32.ReducesTo [0, 1] S_
  h_S_ : 0 < S_.numel
  bcast_S_S16x256 : S_.BroadcastsInDim S16x256 (![] : Fin 0 → Fin S16x256.rank)
  reducesTo_S16x256_S_d0_1 : S16x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x368 : S_.BroadcastsInDim S256x368 (![] : Fin 0 → Fin S256x368.rank)
  reducesTo_S256x368_S_d0_1 : S256x368.ReducesTo [0, 1] S_
  bcast_S_S368 : S_.BroadcastsInDim S368 (![] : Fin 0 → Fin S368.rank)
  reducesTo_S368_S_d0 : S368.ReducesTo [0] S_

variable [Facts]

def fn_part1 {F : FTy → Type} [FloatOps F] (main_arg4 : FVec F S256 .f32) (main_arg5 : FVec F S256x368 .f32) (main_arg6 : FVec F S368 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x368 .f32 := Host.absf main_arg5
  let main_cst_8 : FVec F S_ .f32 := constant S_ .f32 0x7F800000#32
  let main_v25 : FVec F S256x368 .f32 := broadcastInDim S256x368 ![] bcast_S_S256x368 main_cst_8
  let main_v26 : IVec S256x368 1 := cmpf .olt main_v24 main_v25
  let main_c_9 : IVec S_ 1 := constantI S_ 1 1#1
  let main_v27 : IVec S_ 1 := (fun x v => Host.reduce IntOp.andi x v reducesTo_S256x368_S_d0_1 h_S_) main_v26 main_c_9
  let main_v28 : IVec S_ 1 := andi main_v23 main_v27
  let main_v29 : FVec F S368 .f32 := Host.absf main_arg6
  let main_cst_10 : FVec F S_ .f32 := constant S_ .f32 0x7F800000#32
  let main_v30 : FVec F S368 .f32 := broadcastInDim S368 ![] bcast_S_S368 main_cst_10
  let main_v31 : IVec S368 1 := cmpf .olt main_v29 main_v30
  let main_c_11 : IVec S_ 1 := constantI S_ 1 1#1
  let main_v32 : IVec S_ 1 := (fun x v => Host.reduce IntOp.andi x v reducesTo_S368_S_d0 h_S_) main_v31 main_c_11
  let main_v33 : IVec S_ 1 := andi main_v28 main_v32
  main_v33

def fn {F : FTy → Type} [FloatOps F] (main_arg0 : FVec F S65536x32 .f32) (main_arg1 : FVec F S16x256 .f32) (main_arg2 : FVec F S256 .f32) (main_arg3 : FVec F S256x256 .f32) (main_arg4 : FVec F S256 .f32) (main_arg5 : FVec F S256x368 .f32) (main_arg6 : FVec F S368 .f32) : IVec S_ 1 :=
  let main_v0 : FVec F S65536x32 .f32 := Host.absf main_arg0
  let main_cst : FVec F S_ .f32 := constant S_ .f32 0x7F800000#32
  let main_v1 : FVec F S65536x32 .f32 := broadcastInDim S65536x32 ![] bcast_S_S65536x32 main_cst
  let main_v2 : IVec S65536x32 1 := cmpf .olt main_v0 main_v1
  let main_c : IVec S_ 1 := constantI S_ 1 1#1
  let main_v3 : IVec S_ 1 := (fun x v => Host.reduce IntOp.andi x v reducesTo_S65536x32_S_d0_1 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S65536x32 : Shape := ⟨2, ![65536, 32]⟩
abbrev S16x256 : Shape := ⟨2, ![16, 256]⟩
abbrev S256 : Shape := ⟨1, ![256]⟩
abbrev S256x256 : Shape := ⟨2, ![256, 256]⟩
abbrev S256x368 : Shape := ⟨2, ![256, 368]⟩
abbrev S368 : Shape := ⟨1, ![368]⟩
abbrev S32x128 : Shape := ⟨2, ![32, 128]⟩
abbrev S256x512 : Shape := ⟨2, ![256, 512]⟩
abbrev S256x33 : Shape := ⟨2, ![256, 33]⟩
abbrev S256x16x23 : Shape := ⟨3, ![256, 16, 23]⟩
abbrev S256x16x8 : Shape := ⟨3, ![256, 16, 8]⟩
abbrev S256x128 : Shape := ⟨2, ![256, 128]⟩
abbrev S256x16x7 : Shape := ⟨3, ![256, 16, 7]⟩
abbrev S_ : Shape := ⟨0, ![]⟩
abbrev S256x384 : Shape := ⟨2, ![256, 384]⟩
abbrev S16x23 : Shape := ⟨2, ![16, 23]⟩
abbrev S16x8 : Shape := ⟨2, ![16, 8]⟩
abbrev S1x128 : Shape := ⟨2, ![1, 128]⟩
abbrev S16x7 : Shape := ⟨2, ![16, 7]⟩
abbrev S1x384 : Shape := ⟨2, ![1, 384]⟩
abbrev S32x256 : Shape := ⟨2, ![32, 256]⟩
abbrev S1x256 : Shape := ⟨2, ![1, 256]⟩
abbrev S65536x1 : Shape := ⟨2, ![65536, 1]⟩
abbrev S2048x32 : Shape := ⟨2, ![2048, 32]⟩
abbrev S2048x1 : Shape := ⟨2, ![2048, 1]⟩
abbrev S2048x256 : Shape := ⟨2, ![2048, 256]⟩
abbrev S2048x384 : Shape := ⟨2, ![2048, 384]⟩
abbrev S2048x128 : Shape := ⟨2, ![2048, 128]⟩
abbrev S2048 : Shape := ⟨1, ![2048]⟩
abbrev S2048x512 : Shape := ⟨2, ![2048, 512]⟩
abbrev S2048x33 : Shape := ⟨2, ![2048, 33]⟩
abbrev S1x32 : Shape := ⟨2, ![1, 32]⟩

abbrev nBuf : Space → Nat
  | .hbm => 41
  | .vmem => 15
  | .smem => 0
  | _ => 0

abbrev bufTy : (tb : Table) → Fin (tcTables nBuf tb) → BufTy
  | .hbm, ⟨0, _⟩ => ⟨S65536x32, .f32⟩
  | .hbm, ⟨1, _⟩ => ⟨S16x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x368, .f32⟩
  | .hbm, ⟨6, _⟩ => ⟨S368, .f32⟩
  | .hbm, ⟨7, _⟩ => ⟨S32x128, .bf16⟩
  | .hbm, ⟨8, _⟩ => ⟨S256x512, .bf16⟩
  | .hbm, ⟨9, _⟩ => ⟨S256x33, .bf16⟩
  | .hbm, ⟨10, _⟩ => ⟨S256x16x23, .f32⟩
  | .hbm, ⟨11, _⟩ => ⟨S256x16x8, .f32⟩
  | .hbm, ⟨12, _⟩ => ⟨S256x128, .f32⟩
  | .hbm, ⟨13, _⟩ => ⟨S256x16x8, .f32⟩
  | .hbm, ⟨14, _⟩ => ⟨S256x128, .f32⟩
  | .hbm, ⟨15, _⟩ => ⟨S256x16x7, .f32⟩
  | .hbm, ⟨16, _⟩ => ⟨S_, .i32⟩
  | .hbm, ⟨17, _⟩ => ⟨S_, .f32⟩
  | .hbm, ⟨18, _⟩ => ⟨S256x16x8, .f32⟩
  | .hbm, ⟨19, _⟩ => ⟨S256x128, .f32⟩
  | .hbm, ⟨20, _⟩ => ⟨S256x384, .f32⟩
  | .hbm, ⟨21, _⟩ => ⟨S16x23, .f32⟩
  | .hbm, ⟨22, _⟩ => ⟨S16x8, .f32⟩
  | .hbm, ⟨23, _⟩ => ⟨S1x128, .f32⟩
  | .hbm, ⟨24, _⟩ => ⟨S16x8, .f32⟩
  | .hbm, ⟨25, _⟩ => ⟨S1x128, .f32⟩
  | .hbm, ⟨26, _⟩ => ⟨S16x7, .f32⟩
  | .hbm, ⟨27, _⟩ => ⟨S_, .i32⟩
  | .hbm, ⟨28, _⟩ => ⟨S_, .f32⟩
  | .hbm, ⟨29, _⟩ => ⟨S16x8, .f32⟩
  | .hbm, ⟨30, _⟩ => ⟨S1x128, .f32⟩
  | .hbm, ⟨31, _⟩ => ⟨S1x384, .f32⟩
  | .hbm, ⟨32, _⟩ => ⟨S_, .f32⟩
  | .hbm, ⟨33, _⟩ => ⟨S32x256, .f32⟩
  | .hbm, ⟨34, _⟩ => ⟨S32x256, .bf16⟩
  | .hbm, ⟨35, _⟩ => ⟨S1x256, .f32⟩
  | .hbm, ⟨36, _⟩ => ⟨S256x256, .bf16⟩
  | .hbm, ⟨37, _⟩ => ⟨S1x256, .f32⟩
  | .hbm, ⟨38, _⟩ => ⟨S256x384, .bf16⟩
  | .hbm, ⟨39, _⟩ => ⟨S65536x32, .f32⟩
  | .hbm, ⟨40, _⟩ => ⟨S65536x1, .f32⟩
  | .local _ .vmem, ⟨0, _⟩ => ⟨S2048x32, .f32⟩
  | .local _ .vmem, ⟨1, _⟩ => ⟨S2048x32, .f32⟩
  | .local _ .vmem, ⟨2, _⟩ => ⟨S32x256, .bf16⟩
  | .local _ .vmem, ⟨3, _⟩ => ⟨S1x256, .f32⟩
  | .local _ .vmem, ⟨4, _⟩ => ⟨S256x256, .bf16⟩
  | .local _ .vmem, ⟨5, _⟩ => ⟨S1x256, .f32⟩
  | .local _ .vmem, ⟨6, _⟩ => ⟨S256x384, .bf16⟩
  | .local _ .vmem, ⟨7, _⟩ => ⟨S1x384, .f32⟩
  | .local _ .vmem, ⟨8, _⟩ => ⟨S32x128, .bf16⟩
  | .local _ .vmem, ⟨9, _⟩ => ⟨S256x512, .bf16⟩
  | .local _ .vmem, ⟨10, _⟩ => ⟨S256x33, .bf16⟩
  | .local _ .vmem, ⟨11, _⟩ => ⟨S2048x32, .f32⟩
  | .local _ .vmem, ⟨12, _⟩ => ⟨S2048x32, .f32⟩
  | .local _ .vmem, ⟨13, _⟩ => ⟨S2048x1, .f32⟩
  | .local _ .vmem, ⟨14, _⟩ => ⟨S2048x1, .f32⟩
  | _, _ => ⟨S65536x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_cst_1 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_call0_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_call1_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24_0 : Ref sig .tc := ⟨.hbm, 39, rfl⟩
abbrev main_v24_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x33 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2048x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S65536x32 : Shape := ⟨2, ![65536, 32]⟩
abbrev S16x256 : Shape := ⟨2, ![16, 256]⟩
abbrev S256 : Shape := ⟨1, ![256]⟩
abbrev S256x256 : Shape := ⟨2, ![256, 256]⟩
abbrev S256x368 : Shape := ⟨2, ![256, 368]⟩
abbrev S368 : Shape := ⟨1, ![368]⟩
abbrev S65536x16 : Shape := ⟨2, ![65536, 16]⟩
abbrev S65536x256 : Shape := ⟨2, ![65536, 256]⟩
abbrev S1x256 : Shape := ⟨2, ![1, 256]⟩
abbrev S_ : Shape := ⟨0, ![]⟩
abbrev S65536x368 : Shape := ⟨2, ![65536, 368]⟩
abbrev S1x368 : Shape := ⟨2, ![1, 368]⟩
abbrev S65536x16x23 : Shape := ⟨3, ![65536, 16, 23]⟩
abbrev S65536x16x8 : Shape := ⟨3, ![65536, 16, 8]⟩
abbrev S65536x16x7 : Shape := ⟨3, ![65536, 16, 7]⟩
abbrev S65536x16x1 : Shape := ⟨3, ![65536, 16, 1]⟩
abbrev S65536x16x9 : Shape := ⟨3, ![65536, 16, 9]⟩
abbrev S65536x16x1x1 : Shape := ⟨4, ![65536, 16, 1, 1]⟩
abbrev S1 : Shape := ⟨1, ![1]⟩
abbrev S1x1x1x1 : Shape := ⟨4, ![1, 1, 1, 1]⟩
abbrev S65536x16x2 : Shape := ⟨3, ![65536, 16, 2]⟩
abbrev S65536 : Shape := ⟨1, ![65536]⟩
abbrev S65536x1 : Shape := ⟨2, ![65536, 1]⟩

abbrev nBuf : Space → Nat
  | .hbm => 347
  | .vmem => 0
  | .smem => 0
  | _ => 0

abbrev hbmTy0_0 (i : Nat) : BufTy := match i % 128 with
  | 0 => ⟨S65536x32, .f32⟩
  | 1 => ⟨S16x256, .f32⟩
  | 2 => ⟨S256, .f32⟩
  | 3 => ⟨S256x256, .f32⟩
  | 4 => ⟨S256, .f32⟩
  | 5 => ⟨S256x368, .f32⟩
  | 6 => ⟨S368, .f32⟩
  | 7 => ⟨S65536x16, .f32⟩
  | 8 => ⟨S65536x16, .f32⟩
  | 9 => ⟨S65536x256, .f32⟩
  | 10 => ⟨S1x256, .f32⟩
  | 11 => ⟨S65536x256, .f32⟩
  | 12 => ⟨S65536x256, .f32⟩
  | 13 => ⟨S_, .f32⟩
  | 14 => ⟨S65536x256, .f32⟩
  | 15 => ⟨S65536x256, .f32⟩
  | 16 => ⟨S65536x256, .f32⟩
  | 17 => ⟨S1x256, .f32⟩
  | 18 => ⟨S65536x256, .f32⟩
  | 19 => ⟨S65536x256, .f32⟩
  | 20 => ⟨S_, .f32⟩
  | 21 => ⟨S65536x256, .f32⟩
  | 22 => ⟨S65536x256, .f32⟩
  | 23 => ⟨S65536x368, .f32⟩
  | 24 => ⟨S1x368, .f32⟩
  | 25 => ⟨S65536x368, .f32⟩
  | 26 => ⟨S65536x368, .f32⟩
  | 27 => ⟨S65536x16x23, .f32⟩
  | 28 => ⟨S65536x16x8, .f32⟩
  | 29 => ⟨S65536x16x8, .f32⟩
  | 30 => ⟨S65536x16x7, .f32⟩
  | 31 => ⟨S_, .f32⟩
  | 32 => ⟨S65536x16, .f32⟩
  | 33 => ⟨S_, .f32⟩
  | 34 => ⟨S65536x16, .f32⟩
  | 35 => ⟨S65536x16, .f32⟩
  | 36 => ⟨S65536x16x1, .f32⟩
  | 37 => ⟨S65536x16x8, .f32⟩
  | 38 => ⟨S65536x16x8, .f32⟩
  | 39 => ⟨S65536x16x8, .f32⟩
  | 40 => ⟨S_, .f32⟩
  | 41 => ⟨S65536x16, .f32⟩
  | 42 => ⟨S65536x16x1, .f32⟩
  | 43 => ⟨S65536x16x8, .f32⟩
  | 44 => ⟨S65536x16x8, .f32⟩
  | 45 => ⟨S_, .f32⟩
  | 46 => ⟨S65536x16, .f32⟩
  | 47 => ⟨S_, .f32⟩
  | 48 => ⟨S65536x16, .f32⟩
  | 49 => ⟨S65536x16, .f32⟩
  | 50 => ⟨S65536x16x1, .f32⟩
  | 51 => ⟨S65536x16x8, .f32⟩
  | 52 => ⟨S65536x16x8, .f32⟩
  | 53 => ⟨S65536x16x8, .f32⟩
  | 54 => ⟨S_, .f32⟩
  | 55 => ⟨S65536x16, .f32⟩
  | 56 => ⟨S65536x16x1, .f32⟩
  | 57 => ⟨S65536x16x8, .f32⟩
  | 58 => ⟨S65536x16x8, .f32⟩
  | 59 => ⟨S_, .f32⟩
  | 60 => ⟨S65536x16x7, .f32⟩
  | 61 => ⟨S65536x16x7, .f32⟩
  | 62 => ⟨S_, .f32⟩
  | 63 => ⟨S65536x16x7, .f32⟩
  | 64 => ⟨S65536x16x7, .f32⟩
  | 65 => ⟨S65536x16x7, .f32⟩
  | 66 => ⟨S65536x16x7, .f32⟩
  | 67 => ⟨S65536x16x7, .i1⟩
  | 68 => ⟨S65536x16x7, .f32⟩
  | 69 => ⟨S65536x16x7, .f32⟩
  | 70 => ⟨S65536x16x7, .f32⟩
  | 71 => ⟨S65536x16x7, .f32⟩
  | 72 => ⟨S65536x16x7, .f32⟩
  | 73 => ⟨S65536x16x7, .f32⟩
  | 74 => ⟨S65536x16x7, .f32⟩
  | 75 => ⟨S65536x16x7, .f32⟩
  | 76 => ⟨S_, .f32⟩
  | 77 => ⟨S65536x16x7, .f32⟩
  | 78 => ⟨S65536x16x7, .f32⟩
  | 79 => ⟨S_, .f32⟩
  | 80 => ⟨S65536x16x8, .f32⟩
  | 81 => ⟨S65536x16x8, .f32⟩
  | 82 => ⟨S_, .f32⟩
  | 83 => ⟨S65536x16x8, .f32⟩
  | 84 => ⟨S65536x16x8, .f32⟩
  | 85 => ⟨S_, .f32⟩
  | 86 => ⟨S65536x16x8, .f32⟩
  | 87 => ⟨S65536x16x8, .f32⟩
  | 88 => ⟨S_, .f32⟩
  | 89 => ⟨S65536x16x8, .f32⟩
  | 90 => ⟨S65536x16x8, .f32⟩
  | 91 => ⟨S_, .f32⟩
  | 92 => ⟨S65536x16x8, .f32⟩
  | 93 => ⟨S65536x16x8, .f32⟩
  | 94 => ⟨S_, .f32⟩
  | 95 => ⟨S65536x16x8, .f32⟩
  | 96 => ⟨S65536x16x8, .f32⟩
  | 97 => ⟨S_, .f32⟩
  | 98 => ⟨S_, .f32⟩
  | 99 => ⟨S65536x16x8, .f32⟩
  | 100 => ⟨S_, .f32⟩
  | 101 => ⟨S_, .f32⟩
  | 102 => ⟨S65536x16x8, .f32⟩
  | 103 => ⟨S_, .i32⟩
  | 104 => ⟨S_, .f32⟩
  | 105 => ⟨S65536x16x9, .f32⟩
  | 106 => ⟨S_, .f32⟩
  | 107 => ⟨S65536x16x9, .f32⟩
  | 108 => ⟨S65536x16x9, .f32⟩
  | 109 => ⟨S_, .i32⟩
  | 110 => ⟨S_, .f32⟩
  | 111 => ⟨S65536x16x9, .f32⟩
  | 112 => ⟨S_, .f32⟩
  | 113 => ⟨S65536x16x9, .f32⟩
  | 114 => ⟨S65536x16x9, .f32⟩
  | 115 => ⟨S_, .f32⟩
  | 116 => ⟨S_, .f32⟩
  | 117 => ⟨S65536x16x9, .f32⟩
  | 118 => ⟨S_, .f32⟩
  | 119 => ⟨S65536x16, .f32⟩
  | 120 => ⟨S65536x16, .i1⟩
  | 121 => ⟨S_, .f32⟩
  | 122 => ⟨S65536x16, .f32⟩
  | 123 => ⟨S65536x16, .i1⟩
  | 124 => ⟨S65536x16, .i1⟩
  | 125 => ⟨S_, .f32⟩
  | 126 => ⟨S_, .f32⟩
  | 127 => ⟨S65536x16, .f32⟩
  | _ => ⟨S65536x32, .f32⟩

abbrev hbmTy0_1 (i : Nat) : BufTy := match i % 128 with
  | 0 => ⟨S65536x16, .f32⟩
  | 1 => ⟨S65536x16x1, .f32⟩
  | 2 => ⟨S65536x16x9, .f32⟩
  | 3 => ⟨S65536x16x9, .i1⟩
  | 4 => ⟨S65536x16x9, .i32⟩
  | 5 => ⟨S_, .i32⟩
  | 6 => ⟨S65536x16, .i32⟩
  | 7 => ⟨S_, .i32⟩
  | 8 => ⟨S65536x16, .i32⟩
  | 9 => ⟨S65536x16, .i32⟩
  | 10 => ⟨S_, .i32⟩
  | 11 => ⟨S_, .i32⟩
  | 12 => ⟨S_, .i32⟩
  | 13 => ⟨S65536x16, .i32⟩
  | 14 => ⟨S65536x16, .i32⟩
  | 15 => ⟨S_, .i32⟩
  | 16 => ⟨S65536x16, .i32⟩
  | 17 => ⟨S65536x16, .i32⟩
  | 18 => ⟨S65536x16x1, .i32⟩
  | 19 => ⟨S_, .i32⟩
  | 20 => ⟨S65536x16x1, .i32⟩
  | 21 => ⟨S65536x16x1, .i1⟩
  | 22 => ⟨S_, .i32⟩
  | 23 => ⟨S65536x16x1, .i32⟩
  | 24 => ⟨S65536x16x1, .i32⟩
  | 25 => ⟨S65536x16x1, .i32⟩
  | 26 => ⟨S65536x16x1x1, .i32⟩
  | 27 => ⟨S1, .i32⟩
  | 28 => ⟨S_, .i32⟩
  | 29 => ⟨S65536x16x1x1, .i32⟩
  | 30 => ⟨S65536x16x1x1, .i1⟩
  | 31 => ⟨S1x1x1x1, .i32⟩
  | 32 => ⟨S65536x16x1x1, .i32⟩
  | 33 => ⟨S65536x16x1x1, .i1⟩
  | 34 => ⟨S65536x16x1x1, .i1⟩
  | 35 => ⟨S_, .i1⟩
  | 36 => ⟨S65536x16x1, .i1⟩
  | 37 => ⟨S65536x16x1, .f32⟩
  | 38 => ⟨S_, .f32⟩
  | 39 => ⟨S65536x16x1, .f32⟩
  | 40 => ⟨S65536x16x1, .f32⟩
  | 41 => ⟨S65536x16, .f32⟩
  | 42 => ⟨S65536x16x1, .i32⟩
  | 43 => ⟨S_, .i32⟩
  | 44 => ⟨S65536x16x1, .i32⟩
  | 45 => ⟨S65536x16x1, .i1⟩
  | 46 => ⟨S_, .i32⟩
  | 47 => ⟨S65536x16x1, .i32⟩
  | 48 => ⟨S65536x16x1, .i32⟩
  | 49 => ⟨S65536x16x1, .i32⟩
  | 50 => ⟨S65536x16x1x1, .i32⟩
  | 51 => ⟨S1, .i32⟩
  | 52 => ⟨S_, .i32⟩
  | 53 => ⟨S65536x16x1x1, .i32⟩
  | 54 => ⟨S65536x16x1x1, .i1⟩
  | 55 => ⟨S1x1x1x1, .i32⟩
  | 56 => ⟨S65536x16x1x1, .i32⟩
  | 57 => ⟨S65536x16x1x1, .i1⟩
  | 58 => ⟨S65536x16x1x1, .i1⟩
  | 59 => ⟨S_, .i1⟩
  | 60 => ⟨S65536x16x1, .i1⟩
  | 61 => ⟨S65536x16x1, .f32⟩
  | 62 => ⟨S_, .f32⟩
  | 63 => ⟨S65536x16x1, .f32⟩
  | 64 => ⟨S65536x16x1, .f32⟩
  | 65 => ⟨S65536x16, .f32⟩
  | 66 => ⟨S65536x16x1, .i32⟩
  | 67 => ⟨S_, .i32⟩
  | 68 => ⟨S65536x16x1, .i32⟩
  | 69 => ⟨S65536x16x1, .i1⟩
  | 70 => ⟨S_, .i32⟩
  | 71 => ⟨S65536x16x1, .i32⟩
  | 72 => ⟨S65536x16x1, .i32⟩
  | 73 => ⟨S65536x16x1, .i32⟩
  | 74 => ⟨S65536x16x1x1, .i32⟩
  | 75 => ⟨S1, .i32⟩
  | 76 => ⟨S_, .i32⟩
  | 77 => ⟨S65536x16x1x1, .i32⟩
  | 78 => ⟨S65536x16x1x1, .i1⟩
  | 79 => ⟨S1x1x1x1, .i32⟩
  | 80 => ⟨S65536x16x1x1, .i32⟩
  | 81 => ⟨S65536x16x1x1, .i1⟩
  | 82 => ⟨S65536x16x1x1, .i1⟩
  | 83 => ⟨S_, .i1⟩
  | 84 => ⟨S65536x16x1, .i1⟩
  | 85 => ⟨S65536x16x1, .f32⟩
  | 86 => ⟨S_, .f32⟩
  | 87 => ⟨S65536x16x1, .f32⟩
  | 88 => ⟨S65536x16x1, .f32⟩
  | 89 => ⟨S65536x16, .f32⟩
  | 90 => ⟨S65536x16x1, .i32⟩
  | 91 => ⟨S_, .i32⟩
  | 92 => ⟨S65536x16x1, .i32⟩
  | 93 => ⟨S65536x16x1, .i1⟩
  | 94 => ⟨S_, .i32⟩
  | 95 => ⟨S65536x16x1, .i32⟩
  | 96 => ⟨S65536x16x1, .i32⟩
  | 97 => ⟨S65536x16x1, .i32⟩
  | 98 => ⟨S65536x16x1x1, .i32⟩
  | 99 => ⟨S1, .i32⟩
  | 100 => ⟨S_, .i32⟩
  | 101 => ⟨S65536x16x1x1, .i32⟩
  | 102 => ⟨S65536x16x1x1, .i1⟩
  | 103 => ⟨S1x1x1x1, .i32⟩
  | 104 => ⟨S65536x16x1x1, .i32⟩
  | 105 => ⟨S65536x16x1x1, .i1⟩
  | 106 => ⟨S65536x16x1x1, .i1⟩
  | 107 => ⟨S_, .i1⟩
  | 108 => ⟨S65536x16x1, .i1⟩
  | 109 => ⟨S65536x16x1, .f32⟩
  | 110 => ⟨S_, .f32⟩
  | 111 => ⟨S65536x16x1, .f32⟩
  | 112 => ⟨S65536x16x1, .f32⟩
  | 113 => ⟨S65536x16, .f32⟩
  | 114 => ⟨S65536x16x1, .i32⟩
  | 115 => ⟨S_, .i32⟩
  | 116 => ⟨S65536x16x1, .i32⟩
  | 117 => ⟨S65536x16x1, .i1⟩
  | 118 => ⟨S_, .i32⟩
  | 119 => ⟨S65536x16x1, .i32⟩
  | 120 => ⟨S65536x16x1, .i32⟩
  | 121 => ⟨S65536x16x1, .i32⟩
  | 122 => ⟨S65536x16x1x1, .i32⟩
  | 123 => ⟨S1, .i32⟩
  | 124 => ⟨S_, .i32⟩
  | 125 => ⟨S65536x16x1x1, .i32⟩
  | 126 => ⟨S65536x16x1x1, .i1⟩
  | 127 => ⟨S1x1x1x1, .i32⟩
  | _ => ⟨S65536x32, .f32⟩

abbrev hbmTy0_2 (i : Nat) : BufTy := match i % 128 with
  | 0 => ⟨S65536x16x1x1, .i32⟩
  | 1 => ⟨S65536x16x1x1, .i1⟩
  | 2 => ⟨S65536x16x1x1, .i1⟩
  | 3 => ⟨S_, .i1⟩
  | 4 => ⟨S65536x16x1, .i1⟩
  | 5 => ⟨S65536x16x1, .f32⟩
  | 6 => ⟨S_, .f32⟩
  | 7 => ⟨S65536x16x1, .f32⟩
  | 8 => ⟨S65536x16x1, .f32⟩
  | 9 => ⟨S65536x16, .f32⟩
  | 10 => ⟨S65536x16x8, .f32⟩
  | 11 => ⟨S65536x16x1, .i32⟩
  | 12 => ⟨S_, .i32⟩
  | 13 => ⟨S65536x16x1, .i32⟩
  | 14 => ⟨S65536x16x1, .i1⟩
  | 15 => ⟨S_, .i32⟩
  | 16 => ⟨S65536x16x1, .i32⟩
  | 17 => ⟨S65536x16x1, .i32⟩
  | 18 => ⟨S65536x16x1, .i32⟩
  | 19 => ⟨S65536x16x1x1, .i32⟩
  | 20 => ⟨S1, .i32⟩
  | 21 => ⟨S_, .i32⟩
  | 22 => ⟨S65536x16x1x1, .i32⟩
  | 23 => ⟨S65536x16x1x1, .i1⟩
  | 24 => ⟨S1x1x1x1, .i32⟩
  | 25 => ⟨S65536x16x1x1, .i32⟩
  | 26 => ⟨S65536x16x1x1, .i1⟩
  | 27 => ⟨S65536x16x1x1, .i1⟩
  | 28 => ⟨S_, .i1⟩
  | 29 => ⟨S65536x16x1, .i1⟩
  | 30 => ⟨S65536x16x1, .f32⟩
  | 31 => ⟨S_, .f32⟩
  | 32 => ⟨S65536x16x1, .f32⟩
  | 33 => ⟨S65536x16x1, .f32⟩
  | 34 => ⟨S65536x16, .f32⟩
  | 35 => ⟨S65536x16, .f32⟩
  | 36 => ⟨S65536x16, .f32⟩
  | 37 => ⟨S65536x16, .f32⟩
  | 38 => ⟨S_, .f32⟩
  | 39 => ⟨S65536x16, .f32⟩
  | 40 => ⟨S65536x16, .f32⟩
  | 41 => ⟨S65536x16, .f32⟩
  | 42 => ⟨S65536x16, .f32⟩
  | 43 => ⟨S65536x16, .f32⟩
  | 44 => ⟨S_, .f32⟩
  | 45 => ⟨S65536x16, .f32⟩
  | 46 => ⟨S65536x16, .f32⟩
  | 47 => ⟨S65536x16, .f32⟩
  | 48 => ⟨S65536x16, .f32⟩
  | 49 => ⟨S65536x16, .f32⟩
  | 50 => ⟨S65536x16, .f32⟩
  | 51 => ⟨S65536x16, .f32⟩
  | 52 => ⟨S65536x16, .f32⟩
  | 53 => ⟨S65536x16, .f32⟩
  | 54 => ⟨S65536x16, .f32⟩
  | 55 => ⟨S65536x16, .f32⟩
  | 56 => ⟨S65536x16, .f32⟩
  | 57 => ⟨S65536x16, .f32⟩
  | 58 => ⟨S_, .f32⟩
  | 59 => ⟨S65536x16, .f32⟩
  | 60 => ⟨S65536x16, .f32⟩
  | 61 => ⟨S65536x16, .f32⟩
  | 62 => ⟨S_, .f32⟩
  | 63 => ⟨S65536x16, .f32⟩
  | 64 => ⟨S65536x16, .f32⟩
  | 65 => ⟨S65536x16, .f32⟩
  | 66 => ⟨S65536x16, .f32⟩
  | 67 => ⟨S_, .f32⟩
  | 68 => ⟨S65536x16, .f32⟩
  | 69 => ⟨S65536x16, .f32⟩
  | 70 => ⟨S65536x16, .f32⟩
  | 71 => ⟨S65536x16, .f32⟩
  | 72 => ⟨S65536x16, .f32⟩
  | 73 => ⟨S65536x16, .f32⟩
  | 74 => ⟨S65536x16, .f32⟩
  | 75 => ⟨S_, .f32⟩
  | 76 => ⟨S65536x16, .f32⟩
  | 77 => ⟨S65536x16, .f32⟩
  | 78 => ⟨S65536x16, .f32⟩
  | 79 => ⟨S65536x16, .f32⟩
  | 80 => ⟨S_, .f32⟩
  | 81 => ⟨S_, .f32⟩
  | 82 => ⟨S65536x16, .f32⟩
  | 83 => ⟨S65536x16, .f32⟩
  | 84 => ⟨S65536x16x1, .f32⟩
  | 85 => ⟨S65536x16x1, .f32⟩
  | 86 => ⟨S65536x16x2, .f32⟩
  | 87 => ⟨S65536x32, .f32⟩
  | 88 => ⟨S_, .f32⟩
  | 89 => ⟨S65536, .f32⟩
  | 90 => ⟨S65536x1, .f32⟩
  | _ => ⟨S65536x32, .f32⟩

abbrev hbmTy (i : Nat) : BufTy := match i / 128 with
  | 0 => hbmTy0_0 i
  | 1 => hbmTy0_1 i
  | 2 => hbmTy0_2 i
  | _ => ⟨S65536x32, .f32⟩

abbrev bufTy : (tb : Table) → Fin (tcTables nBuf tb) → BufTy
  | .hbm, ⟨i, _⟩ => hbmTy i
  | _, _ => ⟨S65536x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call1_cst : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_1 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_4 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_5 : Ref sig .tc := ⟨.hbm, 59, rfl⟩
abbrev main_v42 : Ref sig .tc := ⟨.hbm, 60, rfl⟩
abbrev main_v43 : Ref sig .tc := ⟨.hbm, 61, rfl⟩
abbrev main_call2_cst : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_v44 : Ref sig .tc := ⟨.hbm, 75, rfl⟩
abbrev main_cst_6 : Ref sig .tc := ⟨.hbm, 76, rfl⟩
abbrev main_v45 : Ref sig .tc := ⟨.hbm, 77, rfl⟩
abbrev main_v46 : Ref sig .tc := ⟨.hbm, 78, rfl⟩
abbrev main_cst_7 : Ref sig .tc := ⟨.hbm, 79, rfl⟩
abbrev main_v47 : Ref sig .tc := ⟨.hbm, 80, rfl⟩
abbrev main_v48 : Ref sig .tc := ⟨.hbm, 81, rfl⟩
abbrev main_cst_8 : Ref sig .tc := ⟨.hbm, 82, rfl⟩
abbrev main_v49 : Ref sig .tc := ⟨.hbm, 83, rfl⟩
abbrev main_v50 : Ref sig .tc := ⟨.hbm, 84, rfl⟩
abbrev main_cst_9 : Ref sig .tc := ⟨.hbm, 85, rfl⟩
abbrev main_v51 : Ref sig .tc := ⟨.hbm, 86, rfl⟩
abbrev main_v52 : Ref sig .tc := ⟨.hbm, 87, rfl⟩
abbrev main_cst_10 : Ref sig .tc := ⟨.hbm, 88, rfl⟩
abbrev main_v53 : Ref sig .tc := ⟨.hbm, 89, rfl⟩
abbrev main_v54 : Ref sig .tc := ⟨.hbm, 90, rfl⟩
abbrev main_cst_11 : Ref sig .tc := ⟨.hbm, 91, rfl⟩
abbrev main_v55 : Ref sig .tc := ⟨.hbm, 92, rfl⟩
abbrev main_v56 : Ref sig .tc := ⟨.hbm, 93, rfl⟩
abbrev main_cst_12 : Ref sig .tc := ⟨.hbm, 94, rfl⟩
abbrev main_v57 : Ref sig .tc := ⟨.hbm, 95, rfl⟩
abbrev main_v58 : Ref sig .tc := ⟨.hbm, 96, rfl⟩
abbrev main_call3_call0_cst : Ref sig .tc := ⟨.hbm, 97, rfl⟩
abbrev main_call3_call0_v0 : Ref sig .tc := ⟨.hbm, 98, rfl⟩
abbrev main_v59 : Ref sig .tc := ⟨.hbm, 99, rfl⟩
abbrev main_call4_call0_cst : Ref sig .tc := ⟨.hbm, 100, rfl⟩
abbrev main_call4_call0_v0 : Ref sig .tc := ⟨.hbm, 101, rfl⟩
abbrev main_v60 : Ref sig .tc := ⟨.hbm, 102, rfl⟩
abbrev main_c : Ref sig .tc := ⟨.hbm, 103, rfl⟩
abbrev main_call5_v0 : Ref sig .tc := ⟨.hbm, 104, rfl⟩
abbrev main_v61 : Ref sig .tc := ⟨.hbm, 105, rfl⟩
abbrev main_cst_13 : Ref sig .tc := ⟨.hbm, 106, rfl⟩
abbrev main_v62 : Ref sig .tc := ⟨.hbm, 107, rfl⟩
abbrev main_v63 : Ref sig .tc := ⟨.hbm, 108, rfl⟩
abbrev main_c_14 : Ref sig .tc := ⟨.hbm, 109, rfl⟩
abbrev main_call6_v0 : Ref sig .tc := ⟨.hbm, 110, rfl⟩
abbrev main_v64 : Ref sig .tc := ⟨.hbm, 111, rfl⟩
abbrev main_cst_15 : Ref sig .tc := ⟨.hbm, 112, rfl⟩
abbrev main_v65 : Ref sig .tc := ⟨.hbm, 113, rfl⟩
abbrev main_v66 : Ref sig .tc := ⟨.hbm, 114, rfl⟩
abbrev main_cst_16 : Ref sig .tc := ⟨.hbm, 115, rfl⟩
abbrev main_call7_v0 : Ref sig .tc := ⟨.hbm, 116, rfl⟩
abbrev main_v67 : Ref sig .tc := ⟨.hbm, 117, rfl⟩
abbrev main_cst_17 : Ref sig .tc := ⟨.hbm, 118, rfl⟩
abbrev main_v68 : Ref sig .tc := ⟨.hbm, 119, rfl⟩
abbrev main_v69 : Ref sig .tc := ⟨.hbm, 120, rfl⟩
abbrev main_cst_18 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_cst_19 : Ref sig .tc := ⟨.hbm, 125, rfl⟩
abbrev main_call8_v0 : Ref sig .tc := ⟨.hbm, 126, rfl⟩
abbrev main_call8_v1 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_c_20 : Ref sig .tc := ⟨.hbm, 133, rfl⟩
abbrev main_v78 : Ref sig .tc := ⟨.hbm, 134, rfl⟩
abbrev main_c_21 : Ref sig .tc := ⟨.hbm, 135, rfl⟩
abbrev main_v79 : Ref sig .tc := ⟨.hbm, 136, rfl⟩
abbrev main_v80 : Ref sig .tc := ⟨.hbm, 137, rfl⟩
abbrev main_c_22 : Ref sig .tc := ⟨.hbm, 138, rfl⟩
abbrev main_c_23 : Ref sig .tc := ⟨.hbm, 139, rfl⟩
abbrev main_call9_v0 : Ref sig .tc := ⟨.hbm, 140, rfl⟩
abbrev main_call9_v1 : Ref sig .tc := ⟨.hbm, 141, rfl⟩
abbrev main_call9_v2 : Ref sig .tc := ⟨.hbm, 142, rfl⟩
abbrev main_call9_v3 : Ref sig .tc := ⟨.hbm, 143, rfl⟩
abbrev main_call9_v4 : Ref sig .tc := ⟨.hbm, 144, rfl⟩
abbrev main_v81 : Ref sig .tc := ⟨.hbm, 145, rfl⟩
abbrev main_v82 : Ref sig .tc := ⟨.hbm, 146, rfl⟩
abbrev main_call10_c : Ref sig .tc := ⟨.hbm, 147, rfl⟩
abbrev main_call10_v0 : Ref sig .tc := ⟨.hbm, 148, rfl⟩
abbrev main_call10_v1 : Ref sig .tc := ⟨.hbm, 149, rfl⟩
abbrev main_call10_c_0 : Ref sig .tc := ⟨.hbm, 150, rfl⟩
abbrev main_call10_v2 : Ref sig .tc := ⟨.hbm, 151, rfl⟩
abbrev main_call10_v3 : Ref sig .tc := ⟨.hbm, 152, rfl⟩
abbrev main_call10_v4 : Ref sig .tc := ⟨.hbm, 153, rfl⟩
abbrev main_call10_v5 : Ref sig .tc := ⟨.hbm, 154, rfl⟩
abbrev main_call10_c_1 : Ref sig .tc := ⟨.hbm, 155, rfl⟩
abbrev main_call10_c_2 : Ref sig .tc := ⟨.hbm, 156, rfl⟩
abbrev main_call10_v6 : Ref sig .tc := ⟨.hbm, 157, rfl⟩
abbrev main_call10_v7 : Ref sig .tc := ⟨.hbm, 158, rfl⟩
abbrev main_call10_v8 : Ref sig .tc := ⟨.hbm, 159, rfl⟩
abbrev main_call10_v9 : Ref sig .tc := ⟨.hbm, 160, rfl⟩
abbrev main_call10_v10 : Ref sig .tc := ⟨.hbm, 161, rfl⟩
abbrev main_call10_v11 : Ref sig .tc := ⟨.hbm, 162, rfl⟩
abbrev main_call10_c_3 : Ref sig .tc := ⟨.hbm, 163, rfl⟩
abbrev main_call10_v12 : Ref sig .tc := ⟨.hbm, 164, rfl⟩
abbrev main_call10_v13 : Ref sig .tc := ⟨.hbm, 165, rfl⟩
abbrev main_call10_cst : Ref sig .tc := ⟨.hbm, 166, rfl⟩
abbrev main_call10_v14 : Ref sig .tc := ⟨.hbm, 167, rfl⟩
abbrev main_v83 : Ref sig .tc := ⟨.hbm, 168, rfl⟩
abbrev main_v84 : Ref sig .tc := ⟨.hbm, 169, rfl⟩
abbrev main_v85 : Ref sig .tc := ⟨.hbm, 170, rfl⟩
abbrev main_call11_c : Ref sig .tc := ⟨.hbm, 171, rfl⟩
abbrev main_call11_v0 : Ref sig .tc := ⟨.hbm, 172, rfl⟩
abbrev main_call11_v1 : Ref sig .tc := ⟨.hbm, 173, rfl⟩
abbrev main_call11_c_0 : Ref sig .tc := ⟨.hbm, 174, rfl⟩
abbrev main_call11_v2 : Ref sig .tc := ⟨.hbm, 175, rfl⟩
abbrev main_call11_v3 : Ref sig .tc := ⟨.hbm, 176, rfl⟩
abbrev main_call11_v4 : Ref sig .tc := ⟨.hbm, 177, rfl⟩
abbrev main_call11_v5 : Ref sig .tc := ⟨.hbm, 178, rfl⟩
abbrev main_call11_c_1 : Ref sig .tc := ⟨.hbm, 179, rfl⟩
abbrev main_call11_c_2 : Ref sig .tc := ⟨.hbm, 180, rfl⟩
abbrev main_call11_v6 : Ref sig .tc := ⟨.hbm, 181, rfl⟩
abbrev main_call11_v7 : Ref sig .tc := ⟨.hbm, 182, rfl⟩
abbrev main_call11_v8 : Ref sig .tc := ⟨.hbm, 183, rfl⟩
abbrev main_call11_v9 : Ref sig .tc := ⟨.hbm, 184, rfl⟩
abbrev main_call11_v10 : Ref sig .tc := ⟨.hbm, 185, rfl⟩
abbrev main_call11_v11 : Ref sig .tc := ⟨.hbm, 186, rfl⟩
abbrev main_call11_c_3 : Ref sig .tc := ⟨.hbm, 187, rfl⟩
abbrev main_call11_v12 : Ref sig .tc := ⟨.hbm, 188, rfl⟩
abbrev main_call11_v13 : Ref sig .tc := ⟨.hbm, 189, rfl⟩
abbrev main_call11_cst : Ref sig .tc := ⟨.hbm, 190, rfl⟩
abbrev main_call11_v14 : Ref sig .tc := ⟨.hbm, 191, rfl⟩
abbrev main_v86 : Ref sig .tc := ⟨.hbm, 192, rfl⟩
abbrev main_v87 : Ref sig .tc := ⟨.hbm, 193, rfl⟩
abbrev main_v88 : Ref sig .tc := ⟨.hbm, 194, rfl⟩
abbrev main_call12_c : Ref sig .tc := ⟨.hbm, 195, rfl⟩
abbrev main_call12_v0 : Ref sig .tc := ⟨.hbm, 196, rfl⟩
abbrev main_call12_v1 : Ref sig .tc := ⟨.hbm, 197, rfl⟩
abbrev main_call12_c_0 : Ref sig .tc := ⟨.hbm, 198, rfl⟩
abbrev main_call12_v2 : Ref sig .tc := ⟨.hbm, 199, rfl⟩
abbrev main_call12_v3 : Ref sig .tc := ⟨.hbm, 200, rfl⟩
abbrev main_call12_v4 : Ref sig .tc := ⟨.hbm, 201, rfl⟩
abbrev main_call12_v5 : Ref sig .tc := ⟨.hbm, 202, rfl⟩
abbrev main_call12_c_1 : Ref sig .tc := ⟨.hbm, 203, rfl⟩
abbrev main_call12_c_2 : Ref sig .tc := ⟨.hbm, 204, rfl⟩
abbrev main_call12_v6 : Ref sig .tc := ⟨.hbm, 205, rfl⟩
abbrev main_call12_v7 : Ref sig .tc := ⟨.hbm, 206, rfl⟩
abbrev main_call12_v8 : Ref sig .tc := ⟨.hbm, 207, rfl⟩
abbrev main_call12_v9 : Ref sig .tc := ⟨.hbm, 208, rfl⟩
abbrev main_call12_v10 : Ref sig .tc := ⟨.hbm, 209, rfl⟩
abbrev main_call12_v11 : Ref sig .tc := ⟨.hbm, 210, rfl⟩
abbrev main_call12_c_3 : Ref sig .tc := ⟨.hbm, 211, rfl⟩
abbrev main_call12_v12 : Ref sig .tc := ⟨.hbm, 212, rfl⟩
abbrev main_call12_v13 : Ref sig .tc := ⟨.hbm, 213, rfl⟩
abbrev main_call12_cst : Ref sig .tc := ⟨.hbm, 214, rfl⟩
abbrev main_call12_v14 : Ref sig .tc := ⟨.hbm, 215, rfl⟩
abbrev main_v89 : Ref sig .tc := ⟨.hbm, 216, rfl⟩
abbrev main_v90 : Ref sig .tc := ⟨.hbm, 217, rfl⟩
abbrev main_v91 : Ref sig .tc := ⟨.hbm, 218, rfl⟩
abbrev main_call13_c : Ref sig .tc := ⟨.hbm, 219, rfl⟩
abbrev main_call13_v0 : Ref sig .tc := ⟨.hbm, 220, rfl⟩
abbrev main_call13_v1 : Ref sig .tc := ⟨.hbm, 221, rfl⟩
abbrev main_call13_c_0 : Ref sig .tc := ⟨.hbm, 222, rfl⟩
abbrev main_call13_v2 : Ref sig .tc := ⟨.hbm, 223, rfl⟩
abbrev main_call13_v3 : Ref sig .tc := ⟨.hbm, 224, rfl⟩
abbrev main_call13_v4 : Ref sig .tc := ⟨.hbm, 225, rfl⟩
abbrev main_call13_v5 : Ref sig .tc := ⟨.hbm, 226, rfl⟩
abbrev main_call13_c_1 : Ref sig .tc := ⟨.hbm, 227, rfl⟩
abbrev main_call13_c_2 : Ref sig .tc := ⟨.hbm, 228, rfl⟩
abbrev main_call13_v6 : Ref sig .tc := ⟨.hbm, 229, rfl⟩
abbrev main_call13_v7 : Ref sig .tc := ⟨.hbm, 230, rfl⟩
abbrev main_call13_v8 : Ref sig .tc := ⟨.hbm, 231, rfl⟩
abbrev main_call13_v9 : Ref sig .tc := ⟨.hbm, 232, rfl⟩
abbrev main_call13_v10 : Ref sig .tc := ⟨.hbm, 233, rfl⟩
abbrev main_call13_v11 : Ref sig .tc := ⟨.hbm, 234, rfl⟩
abbrev main_call13_c_3 : Ref sig .tc := ⟨.hbm, 235, rfl⟩
abbrev main_call13_v12 : Ref sig .tc := ⟨.hbm, 236, rfl⟩
abbrev main_call13_v13 : Ref sig .tc := ⟨.hbm, 237, rfl⟩
abbrev main_call13_cst : Ref sig .tc := ⟨.hbm, 238, rfl⟩
abbrev main_call13_v14 : Ref sig .tc := ⟨.hbm, 239, rfl⟩
abbrev main_v92 : Ref sig .tc := ⟨.hbm, 240, rfl⟩
abbrev main_v93 : Ref sig .tc := ⟨.hbm, 241, rfl⟩
abbrev main_v94 : Ref sig .tc := ⟨.hbm, 242, rfl⟩
abbrev main_call14_c : Ref sig .tc := ⟨.hbm, 243, rfl⟩
abbrev main_call14_v0 : Ref sig .tc := ⟨.hbm, 244, rfl⟩
abbrev main_call14_v1 : Ref sig .tc := ⟨.hbm, 245, rfl⟩
abbrev main_call14_c_0 : Ref sig .tc := ⟨.hbm, 246, rfl⟩
abbrev main_call14_v2 : Ref sig .tc := ⟨.hbm, 247, rfl⟩
abbrev main_call14_v3 : Ref sig .tc := ⟨.hbm, 248, rfl⟩
abbrev main_call14_v4 : Ref sig .tc := ⟨.hbm, 249, rfl⟩
abbrev main_call14_v5 : Ref sig .tc := ⟨.hbm, 250, rfl⟩
abbrev main_call14_c_1 : Ref sig .tc := ⟨.hbm, 251, rfl⟩
abbrev main_call14_c_2 : Ref sig .tc := ⟨.hbm, 252, rfl⟩
abbrev main_call14_v6 : Ref sig .tc := ⟨.hbm, 253, rfl⟩
abbrev main_call14_v7 : Ref sig .tc := ⟨.hbm, 254, rfl⟩
abbrev main_call14_v8 : Ref sig .tc := ⟨.hbm, 255, rfl⟩
abbrev main_call14_v9 : Ref sig .tc := ⟨.hbm, 256, rfl⟩
abbrev main_call14_v10 : Ref sig .tc := ⟨.hbm, 257, rfl⟩
abbrev main_call14_v11 : Ref sig .tc := ⟨.hbm, 258, rfl⟩
abbrev main_call14_c_3 : Ref sig .tc := ⟨.hbm, 259, rfl⟩
abbrev main_call14_v12 : Ref sig .tc := ⟨.hbm, 260, rfl⟩
abbrev main_call14_v13 : Ref sig .tc := ⟨.hbm, 261, rfl⟩
abbrev main_call14_cst : Ref sig .tc := ⟨.hbm, 262, rfl⟩
abbrev main_call14_v14 : Ref sig .tc := ⟨.hbm, 263, rfl⟩
abbrev main_v95 : Ref sig .tc := ⟨.hbm, 264, rfl⟩
abbrev main_v96 : Ref sig .tc := ⟨.hbm, 265, rfl⟩
abbrev main_v97 : Ref sig .tc := ⟨.hbm, 266, rfl⟩
abbrev main_v98 : Ref sig .tc := ⟨.hbm, 267, rfl⟩
abbrev main_call15_c : Ref sig .tc := ⟨.hbm, 268, rfl⟩
abbrev main_call15_v0 : Ref sig .tc := ⟨.hbm, 269, rfl⟩
abbrev main_call15_v1 : Ref sig .tc := ⟨.hbm, 270, rfl⟩
abbrev main_call15_c_0 : Ref sig .tc := ⟨.hbm, 271, rfl⟩
abbrev main_call15_v2 : Ref sig .tc := ⟨.hbm, 272, rfl⟩
abbrev main_call15_v3 : Ref sig .tc := ⟨.hbm, 273, rfl⟩
abbrev main_call15_v4 : Ref sig .tc := ⟨.hbm, 274, rfl⟩
abbrev main_call15_v5 : Ref sig .tc := ⟨.hbm, 275, rfl⟩
abbrev main_call15_c_1 : Ref sig .tc := ⟨.hbm, 276, rfl⟩
abbrev main_call15_c_2 : Ref sig .tc := ⟨.hbm, 277, rfl⟩
abbrev main_call15_v6 : Ref sig .tc := ⟨.hbm, 278, rfl⟩
abbrev main_call15_v7 : Ref sig .tc := ⟨.hbm, 279, rfl⟩
abbrev main_call15_v8 : Ref sig .tc := ⟨.hbm, 280, rfl⟩
abbrev main_call15_v9 : Ref sig .tc := ⟨.hbm, 281, rfl⟩
abbrev main_call15_v10 : Ref sig .tc := ⟨.hbm, 282, rfl⟩
abbrev main_call15_v11 : Ref sig .tc := ⟨.hbm, 283, rfl⟩
abbrev main_call15_c_3 : Ref sig .tc := ⟨.hbm, 284, rfl⟩
abbrev main_call15_v12 : Ref sig .tc := ⟨.hbm, 285, rfl⟩
abbrev main_call15_v13 : Ref sig .tc := ⟨.hbm, 286, rfl⟩
abbrev main_call15_cst : Ref sig .tc := ⟨.hbm, 287, rfl⟩
abbrev main_call15_v14 : Ref sig .tc := ⟨.hbm, 288, rfl⟩
abbrev main_v99 : Ref sig .tc := ⟨.hbm, 289, rfl⟩
abbrev main_v100 : Ref sig .tc := ⟨.hbm, 290, rfl⟩
abbrev main_v101 : Ref sig .tc := ⟨.hbm, 291, rfl⟩
abbrev main_v102 : Ref sig .tc := ⟨.hbm, 292, rfl⟩
abbrev main_v103 : Ref sig .tc := ⟨.hbm, 293, rfl⟩
abbrev main_cst_24 : Ref sig .tc := ⟨.hbm, 294, rfl⟩
abbrev main_v104 : Ref sig .tc := ⟨.hbm, 295, rfl⟩
abbrev main_v105 : Ref sig .tc := ⟨.hbm, 296, rfl⟩
abbrev main_v106 : Ref sig .tc := ⟨.hbm, 297, rfl⟩
abbrev main_v107 : Ref sig .tc := ⟨.hbm, 298, rfl⟩
abbrev main_v108 : Ref sig .tc := ⟨.hbm, 299, rfl⟩
abbrev main_cst_25 : Ref sig .tc := ⟨.hbm, 300, rfl⟩
abbrev main_v109 : Ref sig .tc := ⟨.hbm, 301, rfl⟩
abbrev main_v110 : Ref sig .tc := ⟨.hbm, 302, rfl⟩
abbrev main_v111 : Ref sig .tc := ⟨.hbm, 303, rfl⟩
abbrev main_v112 : Ref sig .tc := ⟨.hbm, 304, rfl⟩
abbrev main_v113 : Ref sig .tc := ⟨.hbm, 305, rfl⟩
abbrev main_v114 : Ref sig .tc := ⟨.hbm, 306, rfl⟩
abbrev main_v115 : Ref sig .tc := ⟨.hbm, 307, rfl⟩
abbrev main_v116 : Ref sig .tc := ⟨.hbm, 308, rfl⟩
abbrev main_v117 : Ref sig .tc := ⟨.hbm, 309, rfl⟩
abbrev main_v118 : Ref sig .tc := ⟨.hbm, 310, rfl⟩
abbrev main_v119 : Ref sig .tc := ⟨.hbm, 311, rfl⟩
abbrev main_v120 : Ref sig .tc := ⟨.hbm, 312, rfl⟩
abbrev main_v121 : Ref sig .tc := ⟨.hbm, 313, rfl⟩
abbrev main_cst_26 : Ref sig .tc := ⟨.hbm, 314, rfl⟩
abbrev main_v122 : Ref sig .tc := ⟨.hbm, 315, rfl⟩
abbrev main_v123 : Ref sig .tc := ⟨.hbm, 316, rfl⟩
abbrev main_v124 : Ref sig .tc := ⟨.hbm, 317, rfl⟩
abbrev main_cst_27 : Ref sig .tc := ⟨.hbm, 318, rfl⟩
abbrev main_v125 : Ref sig .tc := ⟨.hbm, 319, rfl⟩
abbrev main_v126 : Ref sig .tc := ⟨.hbm, 320, rfl⟩
abbrev main_v127 : Ref sig .tc := ⟨.hbm, 321, rfl⟩
abbrev main_v128 : Ref sig .tc := ⟨.hbm, 322, rfl⟩
abbrev main_cst_28 : Ref sig .tc := ⟨.hbm, 323, rfl⟩
abbrev main_v129 : Ref sig .tc := ⟨.hbm, 324, rfl⟩
abbrev main_v130 : Ref sig .tc := ⟨.hbm, 325, rfl⟩
abbrev main_v131 : Ref sig .tc := ⟨.hbm, 326, rfl⟩
abbrev main_v132 : Ref sig .tc := ⟨.hbm, 327, rfl⟩
abbrev main_v133 : Ref sig .tc := ⟨.hbm, 328, rfl⟩
abbrev main_v134 : Ref sig .tc := ⟨.hbm, 329, rfl⟩
abbrev main_v135 : Ref sig .tc := ⟨.hbm, 330, rfl⟩
abbrev main_cst_29 : Ref sig .tc := ⟨.hbm, 331, rfl⟩
abbrev main_v136 : Ref sig .tc := ⟨.hbm, 332, rfl⟩
abbrev main_v137 : Ref sig .tc := ⟨.hbm, 333, rfl⟩
abbrev main_v138 : Ref sig .tc := ⟨.hbm, 334, rfl⟩
abbrev main_v139 : Ref sig .tc := ⟨.hbm, 335, rfl⟩
abbrev main_cst_30 : Ref sig .tc := ⟨.hbm, 336, rfl⟩
abbrev main_call17_v0 : Ref sig .tc := ⟨.hbm, 337, rfl⟩
abbrev main_call17_v1 : Ref sig .tc := ⟨.hbm, 338, rfl⟩
abbrev main_v140 : Ref sig .tc := ⟨.hbm, 339, rfl⟩
abbrev main_v141 : Ref sig .tc := ⟨.hbm, 340, rfl⟩
abbrev main_v142 : Ref sig .tc := ⟨.hbm, 341, rfl⟩
abbrev main_v143 : Ref sig .tc := ⟨.hbm, 342, rfl⟩
abbrev main_v144 : Ref sig .tc := ⟨.hbm, 343, rfl⟩
abbrev main_cst_31 : Ref sig .tc := ⟨.hbm, 344, rfl⟩
abbrev main_v145 : Ref sig .tc := ⟨.hbm, 345, rfl⟩
abbrev main_v146 : Ref sig .tc := ⟨.hbm, 346, rfl⟩

abbrev nD : Nat := 1
abbrev τ : Topo := Topo.v7x

variable {F : FTy → Type} [FloatOps F]
-- ==== Proof.Consts.lean ====
/- The float words of the two programs as real numbers, and small facts about real numbers among the extended reals. -/
module

public import Idealize.ShloMosaic.Lib.Pointwise

@[expose] public section

noncomputable section

namespace Cert.Spline

open Idealize.ShloMosaic

/-- The least share of a bin: the f32 nearest to `1e-4`. -/
def cMin : ℝ := 13743895 / 2 ^ 37
/-- What is left for the softmax: the f32 nearest to `1 - 8e-4`. -/
def cSc : ℝ := 16763794 / 2 ^ 24
/-- The shift of the derivative logits: the f32 nearest to `log (exp (1 - 1e-4) - 1)`. -/
def cD : ℝ := 9079270 / 2 ^ 24
/-- The end of the interval in which the spline acts: the f32 nearest to `0.999`. -/
def cLim : ℝ := 16760439 / 2 ^ 24

/-- The word of the least share. -/
theorem word_min : Ideal.ofBits .f32 0x38D1B717#32 = ((cMin : ℝ) : EReal) := by
  simp [Ideal.ofBits, Ideal.ieee, cMin, -EReal.coe_mul]; norm_num
/-- The word of twice the least share. -/
theorem word_min2 : Ideal.ofBits .f32 0x3951B717#32 = ((2 * cMin : ℝ) : EReal) := by
  simp [Ideal.ofBits, Ideal.ieee, cMin, -EReal.coe_mul]; norm_num
/-- The word of what is left for the softmax. -/
theorem word_sc : Ideal.ofBits .f32 0x3F7FCB92#32 = ((cSc : ℝ) : EReal) := by
  simp [Ideal.ofBits, Ideal.ieee, cSc, -EReal.coe_mul]; norm_num
/-- The word of twice what is left for the softmax. -/
theorem word_sc2 : Ideal.ofBits .f32 0x3FFFCB92#32 = ((2 * cSc : ℝ) : EReal) := by
  simp [Ideal.ofBits, Ideal.ieee, cSc, -EReal.coe_mul]; norm_num
/-- The word of the derivative logits' shift. -/
theorem word_d : Ideal.ofBits .f32 0x3F0A89E6#32 = ((cD : ℝ) : EReal) := by
  simp [Ideal.ofBits, Ideal.ieee, cD, -EReal.coe_mul]; norm_num
/-- The word of the interval's right end. -/
theorem word_lim : Ideal.ofBits .f32 0x3F7FBE77#32 = ((cLim : ℝ) : EReal) := by
  simp [Ideal.ofBits, Ideal.ieee, cLim, -EReal.coe_mul]; norm_num
/-- The word of the interval's left end. -/
theorem word_neg_lim : Ideal.ofBits .f32 0xBF7FBE77#32 = ((-cLim : ℝ) : EReal) := by
  simp [Ideal.ofBits, Ideal.ieee, cLim, -EReal.coe_mul, -EReal.coe_neg]; norm_num
/-- The word of minus one. -/
theorem word_neg_one : Ideal.ofBits .f32 0xBF800000#32 = ((-1 : ℝ) : EReal) := by
  simp [Ideal.ofBits, Ideal.ieee, -EReal.coe_mul, -EReal.coe_neg]; norm_num
/-- The word of two. -/
theorem word_two : Ideal.ofBits .f32 0x40000000#32 = ((2 : ℝ) : EReal) := by
  simp [Ideal.ofBits, Ideal.ieee, -EReal.coe_mul]; norm_num
/-- The word of seven. -/
theorem word_seven : Ideal.ofBits .f32 0x40E00000#32 = ((7 : ℝ) : EReal) := by
  simp [Ideal.ofBits, Ideal.ieee, -EReal.coe_mul]; norm_num
/-- The word of plus infinity. -/
theorem word_top : Ideal.ofBits .f32 0x7F800000#32 = ⊤ := by
  simp [Ideal.ofBits, Ideal.ieee]
/-- The word of minus infinity. -/
theorem word_bot : Ideal.ofBits .f32 0xFF800000#32 = ⊥ := by
  simp [Ideal.ofBits, Ideal.ieee]

/-- A finite sum of real numbers is the same sum among the extended reals. -/
theorem coe_sum {ι : Type} [Fintype ι] (f : ι → ℝ) : ((∑ i, f i : ℝ) : EReal) = ∑ i, (f i : EReal) := by
  classical
  have key : ∀ s : Finset ι, ((∑ i ∈ s, f i : ℝ) : EReal) = ∑ i ∈ s, (f i : EReal) := by
    intro s
    induction s using Finset.induction_on with
    | empty => simp
    | insert a s ha ih => rw [Finset.sum_insert ha, Finset.sum_insert ha, EReal.coe_add, ih]
  exact key Finset.univ

/-- The quotient of two real numbers, the second not zero. -/
theorem div_real (a : ℝ) {b : ℝ} (h : b ≠ 0) : Ideal.div (a : EReal) (b : EReal) = ((a / b : ℝ) : EReal) := by
  rw [Ideal.div_coe h, ← EReal.coe_mul]; congr 1; ring

/-- The logarithm of a positive real number. -/
theorem log_real {a : ℝ} (h : 0 < a) : Ideal.log (a : EReal) = ((Real.log a : ℝ) : EReal) := by
  rw [Ideal.log_coe, if_neg (not_le.mpr h)]

/-- The larger of two real numbers. -/
theorem max_real (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The smaller of two real numbers. -/
theorem min_real (a b : ℝ) : min (a : EReal) (b : EReal) = ((min a b : ℝ) : EReal) := by
  rcases le_total a b with h | h
  · rw [min_eq_left h, min_eq_left (EReal.coe_le_coe_iff.mpr h)]
  · rw [min_eq_right h, min_eq_right (EReal.coe_le_coe_iff.mpr h)]

/-- The greatest of finitely many real numbers, at least one, started from below everything, is a real number. -/
theorem fold_max_real {n : ℕ} (f : Fin (n + 1) → ℝ) :
    ∃ M : ℝ, (Finset.univ.fold max (⊥ : EReal) fun k => (f k : EReal)) = (M : EReal) := by
  classical
  have key : ∀ s : Finset (Fin (n + 1)), s.Nonempty → ∃ M : ℝ, (s.fold max (⊥ : EReal) fun k => (f k : EReal)) = (M : EReal) := by
    intro s hs
    induction hs using Finset.Nonempty.cons_induction with
    | singleton a => exact ⟨f a, by simp⟩
    | cons a s ha hs ih =>
      obtain ⟨M, hM⟩ := ih
      exact ⟨max (f a) M, by rw [Finset.fold_cons, hM, max_real]⟩
  exact key _ Finset.univ_nonempty

/-- The least share is positive. -/
theorem cMin_pos : 0 < cMin := by norm_num [cMin]
/-- What is left for the softmax is positive. -/
theorem cSc_pos : 0 < cSc := by norm_num [cSc]
/-- The interval's right end is positive. -/
theorem cLim_pos : 0 < cLim := by norm_num [cLim]
/-- The interval's right end lies below one. -/
theorem cLim_lt_one : cLim < 1 := by norm_num [cLim]
/-- The last edge lies to the right of every point in which the spline acts. -/
theorem last_edge : cLim < -1 + 2 * (8 * cMin + cSc) := by norm_num [cMin, cSc, cLim]

end Cert.Spline

end
-- ==== Proof.Spline.lean ====
/- The spline over the real numbers: bins, edges and slopes of one channel, the bin of a point, the value there. -/
module

public import proofs.«01_k».proof.Proof.Consts

@[expose] public section

noncomputable section

namespace Cert.Spline

/-- The share of bin `k` by the softmax of its logits. -/
def share (w : Fin 8 → ℝ) (k : Fin 8) : ℝ := Real.exp (w k) / ∑ i, Real.exp (w i)

/-- The extent of bin `k`: the least share and its part of the rest, over an interval of length two. -/
def ext (w : Fin 8 → ℝ) (k : Fin 8) : ℝ := 2 * (cMin + cSc * share w k)

/-- Edge `n` of the bins: the left end and the extents of the first `n`. -/
def edge (w : Fin 8 → ℝ) (n : ℕ) : ℝ := -1 + ∑ i : Fin 8, if (i : ℕ) < n then ext w i else 0

/-- The softplus function, in the form that does not overflow. -/
def softplus (z : ℝ) : ℝ := max z 0 + Real.log (1 + Real.exp (-|z|))

/-- The slope at edge `n`: one at the ends. -/
def slope (d : Fin 7 → ℝ) (n : ℕ) : ℝ :=
  if h : 1 ≤ n ∧ n < 8 then softplus (d ⟨n - 1, by omega⟩ + cD) + cMin else 1

/-- A point outside the interval in which the spline acts. -/
def Outside (x : ℝ) : Prop := x ≤ -cLim ∨ cLim ≤ x

/-- Whether a point lies outside is decided classically. -/
instance (x : ℝ) : Decidable (Outside x) := Classical.propDecidable _

/-- The point the spline is taken at: zero for a point outside. -/
def inner (x : ℝ) : ℝ := if Outside x then 0 else x

/-- `b` is the bin of the point `x`. -/
def InBin (w : Fin 8 → ℝ) (x : ℝ) (b : Fin 8) : Prop := edge w b ≤ inner x ∧ inner x < edge w (b + 1)

variable (w h : Fin 8 → ℝ) (d : Fin 7 → ℝ) (x : ℝ) (b : Fin 8)

/-- The mean slope of bin `b`. -/
def mean : ℝ := ext h b / ext w b
/-- Where in bin `b` the point lies. -/
def pos : ℝ := (inner x - edge w b) / ext w b
/-- The denominator of the rational function. -/
def den : ℝ := mean w h b + (slope d (b + 1) + slope d b - 2 * mean w h b) * (pos w x b * (1 - pos w x b))
/-- The numerator of the rational function. -/
def num : ℝ := ext h b * (mean w h b * (pos w x b * pos w x b) + slope d b * (pos w x b * (1 - pos w x b)))
/-- The argument of the logarithm. -/
def grow : ℝ := slope d (b + 1) * (pos w x b * pos w x b) + 2 * mean w h b * (pos w x b * (1 - pos w x b))
  + slope d b * ((1 - pos w x b) * (1 - pos w x b))
/-- The spline's value, from bin `b`. -/
def value : ℝ := if Outside x then x else edge h b + num w h d x b / den w h d x b
/-- The logarithm of the spline's slope, from bin `b`. -/
def logSlope : ℝ := if Outside x then 0 else
  2 * Real.log (mean w h b) + Real.log (grow w h d x b) - 2 * Real.log (den w h d x b)

/-- A sum of exponentials is positive. -/
theorem expSum_pos : 0 < ∑ i, Real.exp (w i) :=
  Finset.sum_pos (fun _ _ => Real.exp_pos _) Finset.univ_nonempty

/-- A bin's share is positive. -/
theorem share_pos (k : Fin 8) : 0 < share w k := div_pos (Real.exp_pos _) (expSum_pos w)

/-- The shares sum to one. -/
theorem share_sum : ∑ k, share w k = 1 := by
  simp only [share]
  rw [← Finset.sum_div, div_self (expSum_pos w).ne']

/-- A bin's extent is positive. -/
theorem ext_pos (k : Fin 8) : 0 < ext w k := by
  have := mul_pos cSc_pos (share_pos w k)
  have := cMin_pos
  simp only [ext]; linarith

/-- The share does not change when every logit is shifted by the same number. -/
theorem share_shift (M : ℝ) (k : Fin 8) :
    Real.exp (w k - M) / ∑ i, Real.exp (w i - M) = share w k := by
  simp only [share, Real.exp_sub]
  rw [← Finset.sum_div, div_div_div_cancel_right₀ (Real.exp_pos M).ne']

/-- The first edge is the left end. -/
theorem edge_zero : edge w 0 = -1 := by simp [edge]

/-- An edge is the one before and the bin between. -/
theorem edge_succ (k : Fin 8) : edge w (k + 1) = edge w k + ext w k := by
  have : ∀ i : Fin 8, (if (i : ℕ) < k + 1 then ext w i else 0)
      = (if (i : ℕ) < k then ext w i else 0) + if i = k then ext w i else 0 := by
    intro i
    rcases lt_trichotomy i k with hik | hik | hik
    · rw [if_pos (by have := Fin.lt_def.mp hik; omega), if_pos (Fin.lt_def.mp hik), if_neg hik.ne, add_zero]
    · subst hik; simp
    · rw [if_neg (by have := Fin.lt_def.mp hik; omega), if_neg (by have := Fin.lt_def.mp hik; omega), if_neg hik.ne', add_zero]
  simp only [edge, this, Finset.sum_add_distrib, Finset.sum_ite_eq', Finset.mem_univ, if_true]
  ring

/-- The last edge does not depend on the logits. -/
theorem edge_eight : edge w 8 = -1 + 2 * (8 * cMin + cSc) := by
  have : ∀ i : Fin 8, (if (i : ℕ) < 8 then ext w i else 0) = 2 * cMin + 2 * cSc * share w i := by
    intro i; rw [if_pos i.isLt, ext]; ring
  simp only [edge, this, Finset.sum_add_distrib, ← Finset.mul_sum, share_sum]
  simp; ring

/-- The edges rise. -/
theorem edge_le {n n' : ℕ} (hn : n ≤ n') : edge w n ≤ edge w n' := by
  simp only [edge]
  refine add_le_add le_rfl (Finset.sum_le_sum fun i _ => ?_)
  by_cases h1 : (i : ℕ) < n
  · rw [if_pos h1, if_pos (by omega)]
  · rw [if_neg h1]; split
    · exact (ext_pos w i).le
    · exact le_rfl

/-- The point the spline is taken at lies in the interval. -/
theorem inner_bounds : -cLim < inner x ∧ inner x < cLim := by
  by_cases hx : Outside x
  · simp only [inner, if_pos hx]; exact ⟨by linarith [cLim_pos], cLim_pos⟩
  · simp only [inner, if_neg hx]
    simp only [Outside, not_or, not_le] at hx; exact hx

/-- Every point has a bin. -/
theorem exists_bin : ∃ b : Fin 8, InBin w x b := by
  classical
  have h8 : ∃ n : ℕ, inner x < edge w (n + 1) := ⟨7, by
    rw [edge_eight]; exact (inner_bounds x).2.trans last_edge⟩
  let n := Nat.find h8
  have hn : inner x < edge w (n + 1) := Nat.find_spec h8
  have hle : n ≤ 7 := Nat.find_min' h8 (by rw [edge_eight]; exact (inner_bounds x).2.trans last_edge)
  refine ⟨⟨n, by omega⟩, ?_, hn⟩
  show edge w n ≤ inner x
  rcases Nat.eq_zero_or_pos n with h0 | h0
  · rw [h0, edge_zero]; linarith [(inner_bounds x).1, cLim_lt_one]
  · have := Nat.find_min h8 (m := n - 1) (by omega)
    rw [not_lt, Nat.sub_add_cancel h0] at this
    exact this

variable {w x b}

/-- The edges at or below a point are those up to its bin's number. -/
theorem edge_le_iff (hb : InBin w x b) (n : ℕ) : edge w n ≤ inner x ↔ n ≤ b := by
  constructor
  · intro hn; by_contra hc
    exact absurd (hb.2.trans_le ((edge_le w (by omega : (b : ℕ) + 1 ≤ n)).trans hn)) (lt_irrefl _)
  · intro hn; exact (edge_le w hn).trans hb.1

/-- The place in the bin lies between zero and one. -/
theorem pos_bounds (hb : InBin w x b) : 0 ≤ pos w x b ∧ pos w x b ≤ 1 := by
  have he := ext_pos w b
  have h1 := hb.1; have h2 := hb.2
  rw [edge_succ] at h2
  refine ⟨div_nonneg (by linarith) he.le, ?_⟩
  rw [pos, div_le_one he]; linarith

/-- The slopes are positive. -/
theorem slope_pos (n : ℕ) : 0 < slope d n := by
  simp only [slope]
  split
  · have h1 : 0 ≤ Real.log (1 + Real.exp (-|d ⟨n - 1, by omega⟩ + cD|)) :=
      Real.log_nonneg (by linarith [Real.exp_pos (-|d ⟨n - 1, by omega⟩ + cD|)])
    have h2 := le_max_right (d ⟨n - 1, by omega⟩ + cD) 0
    have h3 := cMin_pos
    simp only [softplus]; linarith
  · exact one_pos

variable (w b) in
/-- The mean slope is positive. -/
theorem mean_pos : 0 < mean w h b := div_pos (ext_pos h b) (ext_pos w b)

/-- The denominator is positive. -/
theorem den_pos (hb : InBin w x b) : 0 < den w h d x b := by
  obtain ⟨h0, h1⟩ := pos_bounds hb
  have hm := mean_pos w h b
  have hd := slope_pos d b; have hd' := slope_pos d (b + 1)
  set p := pos w x b with hp
  have hq : 0 ≤ p * (1 - p) := mul_nonneg h0 (by linarith)
  have hq4 : p * (1 - p) ≤ 1 / 4 := by nlinarith [sq_nonneg (p - 1 / 2)]
  have : 0 ≤ (slope d (b + 1) + slope d b) * (p * (1 - p)) := mul_nonneg (by linarith) hq
  have : mean w h b * (p * (1 - p)) ≤ mean w h b * (1 / 4) := mul_le_mul_of_nonneg_left hq4 hm.le
  simp only [den, ← hp]; nlinarith

/-- The logarithm's argument is positive. -/
theorem grow_pos (hb : InBin w x b) : 0 < grow w h d x b := by
  obtain ⟨h0, h1⟩ := pos_bounds hb
  have hm := mean_pos w h b
  have hd := slope_pos d b; have hd' := slope_pos d (b + 1)
  simp only [grow]
  set p := pos w x b with hp
  have hq : 0 ≤ 2 * mean w h b * (p * (1 - p)) := mul_nonneg (by linarith) (mul_nonneg h0 (by linarith))
  rcases eq_or_lt_of_le h0 with h | h
  · rw [← h]; simp; exact hd
  · have h2 : 0 < slope d (b + 1) * (p * p) := mul_pos hd' (mul_pos h h)
    have h3 : 0 ≤ slope d b * ((1 - p) * (1 - p)) := mul_nonneg hd.le (mul_self_nonneg _)
    linarith

/-- The three logarithms as one. -/
theorem log_join (hb : InBin w x b) :
    Real.log (mean w h b * mean w h b * grow w h d x b / (den w h d x b * den w h d x b))
      = 2 * Real.log (mean w h b) + Real.log (grow w h d x b) - 2 * Real.log (den w h d x b) := by
  have hm := (mean_pos w h b).ne'
  have hg := (grow_pos h d hb).ne'
  have hd := (den_pos h d hb).ne'
  rw [Real.log_div (mul_ne_zero (mul_ne_zero hm hm) hg) (mul_ne_zero hd hd), Real.log_mul (mul_ne_zero hm hm) hg,
    Real.log_mul hm hm, Real.log_mul hd hd]
  ring

end Cert.Spline

end
-- ==== Proof.Mlp.lean ====
/- The network that yields the spline's logits, over the real numbers, for one row. -/
module

public import proofs.«01_k».proof.Proof.Spline

@[expose] public section

noncomputable section

namespace Cert.Spline

/-- The network's weights and biases. -/
structure Net where
  A0 : Fin 16 → Fin 256 → ℝ
  c0 : Fin 256 → ℝ
  A1 : Fin 256 → Fin 256 → ℝ
  c1 : Fin 256 → ℝ
  A2 : Fin 256 → Fin 368 → ℝ
  c2 : Fin 368 → ℝ

namespace Net

variable (N : Net) (xr : Fin 32 → ℝ)

/-- The first hidden layer: the entries of odd number are what the network reads. -/
def hid1 (c : Fin 256) : ℝ := max ((∑ i : Fin 16, xr ⟨1 + i * 2, by omega⟩ * N.A0 i c) + N.c0 c) 0
/-- The second hidden layer. -/
def hid2 (c : Fin 256) : ℝ := max ((∑ k : Fin 256, N.hid1 xr k * N.A1 k c) + N.c1 c) 0
/-- The last layer. -/
def raw (c : Fin 368) : ℝ := (∑ k : Fin 256, N.hid2 xr k * N.A2 k c) + N.c2 c
/-- The logits of channel `j`'s widths. -/
def wlog (j : Fin 16) (k : Fin 8) : ℝ := N.raw xr ⟨j * 23 + k, by omega⟩
/-- The logits of channel `j`'s heights. -/
def hlog (j : Fin 16) (k : Fin 8) : ℝ := N.raw xr ⟨j * 23 + (8 + k), by omega⟩
/-- The logits of channel `j`'s slopes. -/
def dlog (j : Fin 16) (k : Fin 7) : ℝ := N.raw xr ⟨j * 23 + (16 + k), by omega⟩
/-- The point of channel `j`: the entries of even number. -/
def pt (j : Fin 16) : ℝ := xr ⟨j * 2, by omega⟩
/-- The spline's value in channel `j`, from bin `b`. -/
def val (j : Fin 16) (b : Fin 8) : ℝ := value (N.wlog xr j) (N.hlog xr j) (N.dlog xr j) (Net.pt xr j) b
/-- The logarithm of the spline's slope in channel `j`, from bin `b`. -/
def lsl (j : Fin 16) (b : Fin 8) : ℝ := logSlope (N.wlog xr j) (N.hlog xr j) (N.dlog xr j) (Net.pt xr j) b

end Net

/-- The 368 logits laid out in 384 lanes: the widths', the heights' and the slopes', eight lanes to a channel. -/
def relay (f : Fin 368 → ℝ) (c : Fin 384) : ℝ :=
  if _ : (c : ℕ) < 128 then f ⟨c / 8 * 23 + c % 8, by omega⟩
  else if _ : (c : ℕ) < 256 then f ⟨(c - 128) / 8 * 23 + (8 + c % 8), by omega⟩
  else if _ : (c : ℕ) % 8 < 7 then f ⟨(c - 256) / 8 * 23 + (16 + c % 8), by omega⟩
  else 0

/-- The first layer's weights with a row of zeros before each row. -/
def spaced (A : Fin 16 → Fin 256 → ℝ) (a : Fin 32) (c : Fin 256) : ℝ :=
  if (a : ℕ) % 2 = 1 then A ⟨a / 2, by omega⟩ c else 0

/-- A sum over 32 places of which only the odd count is the sum over 16. -/
theorem sum_spaced (xr : Fin 32 → ℝ) (A : Fin 16 → Fin 256 → ℝ) (c : Fin 256) :
    ∑ a : Fin 32, xr a * spaced A a c = ∑ i : Fin 16, xr ⟨1 + i * 2, by omega⟩ * A i c := by
  rw [Idealize.ShloMosaic.Fin.sum_univ_tiles 16 2 rfl]
  refine Finset.sum_congr rfl fun i _ => ?_
  rw [Fin.sum_univ_two]
  have h0 : ¬ ((i : ℕ) * 2) % 2 = 1 := by omega
  have h1 : ((i : ℕ) * 2 + 1) % 2 = 1 := by omega
  have h2 : ((i : ℕ) * 2 + 1) / 2 = i := by omega
  simp only [spaced, Fin.val_zero, Fin.val_one, add_zero, h0, h1, h2, if_true, if_false, mul_zero, zero_add]
  congr 2
  exact Fin.ext (by show (i : ℕ) * 2 + 1 = 1 + (i : ℕ) * 2; omega)

/-- Laying out commutes with the last layer. -/
theorem relay_raw (N : Net) (xr : Fin 32 → ℝ) (c : Fin 384) :
    (∑ k : Fin 256, N.hid2 xr k * relay (N.A2 k) c) + relay N.c2 c = relay (N.raw xr) c := by
  by_cases h1 : (c : ℕ) < 128
  · simp only [relay, h1, dif_pos, Net.raw]
  · by_cases h2 : (c : ℕ) < 256
    · simp only [relay, h1, h2, dif_pos, dif_neg, not_false_eq_true, Net.raw]
    · by_cases h3 : (c : ℕ) % 8 < 7
      · simp only [relay, h1, h2, h3, dif_pos, dif_neg, not_false_eq_true, Net.raw]
      · simp only [relay, h1, h2, h3, dif_neg, not_false_eq_true, mul_zero, Finset.sum_const_zero, add_zero]

/-- Lane `8 j + k` of the widths. -/
theorem relay_w (N : Net) (xr : Fin 32 → ℝ) (j : Fin 16) (k : Fin 8) (c : Fin 384) (hc : (c : ℕ) = 8 * j + k) :
    relay (N.raw xr) c = N.wlog xr j k := by
  have h : (c : ℕ) < 128 := by omega
  simp only [relay, h, dif_pos, Net.wlog]
  congr 2; omega

/-- Lane `128 + 8 j + k`: the heights. -/
theorem relay_h (N : Net) (xr : Fin 32 → ℝ) (j : Fin 16) (k : Fin 8) (c : Fin 384) (hc : (c : ℕ) = 128 + 8 * j + k) :
    relay (N.raw xr) c = N.hlog xr j k := by
  have h : ¬(c : ℕ) < 128 := by omega
  have h' : (c : ℕ) < 256 := by omega
  simp only [relay, h, h', dif_pos, dif_neg, not_false_eq_true, Net.hlog]
  congr 2; omega

/-- Lane `256 + 8 j + k`: the slopes, seven to a channel. -/
theorem relay_d (N : Net) (xr : Fin 32 → ℝ) (j : Fin 16) (k : Fin 7) (c : Fin 384) (hc : (c : ℕ) = 256 + 8 * j + k) :
    relay (N.raw xr) c = N.dlog xr j k := by
  have h : ¬(c : ℕ) < 128 := by omega
  have h' : ¬(c : ℕ) < 256 := by omega
  have h'' : (c : ℕ) % 8 < 7 := by omega
  simp only [relay, h, h', h'', dif_pos, dif_neg, not_false_eq_true, Net.dlog]
  congr 2; omega

end Cert.Spline

end
-- ==== Proof.Lanes.lean ====
/- Sums against the tables of zeros and ones, eight lanes to a channel, and the extents as scaled shares of exponentials. -/
module

public import proofs.«01_k».proof.Proof.Mlp

@[expose] public section

noncomputable section

namespace Cert.Spline

open Idealize.ShloMosaic

/-- The channel of a lane. -/
def chan (l : Fin 128) : Fin 16 := ⟨l / 8, by omega⟩
/-- The bin of a lane. -/
def bin (l : Fin 128) : Fin 8 := ⟨l % 8, by omega⟩

/-- The entries of the table that repeats the entries of even number eight times. -/
def spreadR (a l : ℕ) : ℝ := if a = 2 * (l / 8) then 1 else 0
/-- The entries of the table of group sums. -/
def groupR (a c : ℕ) : ℝ :=
  if a / 8 = c % 256 / 8 then (if 256 ≤ c then 1 else if a ≤ c then 1 else 0) else 0
/-- The entries of the selector. -/
def selR (a c : ℕ) : ℝ :=
  if a < 128 then (if c = 2 * (a / 8) then 1 else 0) else (if c = 32 then 1 else 0)

/-- A sum over groups of eight against a table that is zero outside one group. -/
theorem sum_block {n J : ℕ} (hn : n = J * 8) (f T : Fin n → ℝ) (g : Fin J) (m : Fin 8 → ℝ)
    (hT : ∀ (t : Fin J) (k : Fin 8) (a : Fin n), (a : ℕ) = t * 8 + k → T a = if t = g then m k else 0) :
    ∑ a, f a * T a = ∑ k : Fin 8, f ⟨g * 8 + k, by have := g.isLt; have := k.isLt; omega⟩ * m k := by
  rw [Fin.sum_univ_tiles J 8 hn.symm]
  have : ∀ t : Fin J, (∑ k : Fin 8, f ⟨t * 8 + k, by have := t.isLt; have := k.isLt; omega⟩
        * T ⟨t * 8 + k, by have := t.isLt; have := k.isLt; omega⟩)
      = if t = g then ∑ k : Fin 8, f ⟨t * 8 + k, by have := t.isLt; have := k.isLt; omega⟩ * m k else 0 := by
    intro t
    by_cases h : t = g
    · rw [if_pos h]
      refine Finset.sum_congr rfl fun k _ => ?_
      rw [hT t k _ rfl, if_pos h]
    · rw [if_neg h]
      refine Finset.sum_eq_zero fun k _ => ?_
      rw [hT t k _ rfl, if_neg h, mul_zero]
  refine (Finset.sum_congr rfl fun t _ => this t).trans ?_
  rw [Finset.sum_ite_eq' Finset.univ g, if_pos (Finset.mem_univ _)]

/-- The sum up to a lane within its group. -/
theorem sum_group_lo (f : Fin 256 → ℝ) (g : Fin 32) (k : Fin 8) (c : ℕ) (hc : c = g * 8 + k) :
    ∑ a : Fin 256, f a * groupR a c = ∑ i : Fin 8, f ⟨g * 8 + i, by omega⟩ * if i ≤ k then 1 else 0 := by
  refine sum_block rfl f _ g _ fun t i a ha => ?_
  have e1 : (a : ℕ) / 8 = t := by omega
  have e2 : c % 256 / 8 = g := by omega
  have e3 : ¬256 ≤ c := by omega
  simp only [groupR, e1, e2, e3, if_false, Fin.ext_iff]
  by_cases h : (t : ℕ) = g
  · have : (a : ℕ) ≤ c ↔ i ≤ k := by rw [Fin.le_def]; omega
    simp only [h, if_true, this]
  · simp only [h, if_false]

/-- The sum over a lane's group. -/
theorem sum_group_hi (f : Fin 256 → ℝ) (g : Fin 32) (k : Fin 8) (c : ℕ) (hc : c = 256 + (g * 8 + k)) :
    ∑ a : Fin 256, f a * groupR a c = ∑ i : Fin 8, f ⟨g * 8 + i, by omega⟩ := by
  rw [sum_block rfl f (fun a => groupR a c) g (fun _ => 1)]
  · simp only [mul_one]
  · intro t i a ha
    have e1 : (a : ℕ) / 8 = t := by omega
    have e2 : c % 256 / 8 = g := by omega
    have e3 : 256 ≤ c := by omega
    simp only [groupR, e1, e2, e3, if_true, Fin.ext_iff]

/-- The entry of even number that a lane reads. -/
theorem sum_spread (f : Fin 32 → ℝ) (l : Fin 128) :
    ∑ a : Fin 32, f a * spreadR a l = f ⟨chan l * 2, by have := (chan l).isLt; omega⟩ := by
  rw [Finset.sum_eq_single (⟨chan l * 2, by have := (chan l).isLt; omega⟩ : Fin 32)]
  · have : (chan l : ℕ) * 2 = 2 * ((l : ℕ) / 8) := by simp only [chan]; omega
    simp only [spreadR, this, if_true, mul_one]
  · intro a _ ha
    have : ¬(a : ℕ) = 2 * ((l : ℕ) / 8) := by
      intro h; exact ha (Fin.ext (by simp only [chan]; omega))
    simp only [spreadR, this, if_false, mul_zero]
  · intro h; exact absurd (Finset.mem_univ _) h

/-- A column of even number selects one channel of the first half. -/
theorem sum_sel_even (b : Fin 16 → Fin 8) (V L : Fin 16 → ℝ) (j : Fin 16) (c : ℕ) (hc : c = j * 2) :
    (∑ a : Fin 128, (if bin a = b (chan a) then V (chan a) else 0) * selR a c)
      + ∑ a : Fin 128, (if bin a = b (chan a) then L (chan a) else 0) * selR (128 + a) c = V j := by
  have h2 : (∑ a : Fin 128, (if bin a = b (chan a) then L (chan a) else 0) * selR (128 + a) c) = 0 := by
    refine Finset.sum_eq_zero fun a _ => ?_
    have e1 : ¬128 + (a : ℕ) < 128 := by omega
    have e2 : ¬c = 32 := by omega
    simp only [selR, e1, e2, if_false, mul_zero]
  rw [h2, add_zero, sum_block rfl _ (fun a : Fin 128 => selR a c) j (fun _ => 1)]
  · have : ∀ k : Fin 8, (if bin ⟨j * 8 + k, by omega⟩ = b (chan ⟨j * 8 + k, by omega⟩)
          then V (chan ⟨j * 8 + k, by omega⟩) else 0) * 1 = if k = b j then V j else 0 := by
      intro k
      have e1 : bin ⟨j * 8 + k, by omega⟩ = k := Fin.ext (by simp only [bin]; omega)
      have e2 : chan ⟨j * 8 + k, by omega⟩ = j := Fin.ext (by simp only [chan]; omega)
      rw [e1, e2, mul_one]
    refine (Finset.sum_congr rfl fun k _ => this k).trans ?_
    rw [Finset.sum_ite_eq' Finset.univ (b j), if_pos (Finset.mem_univ _)]
  · intro t i a ha
    have e1 : (a : ℕ) < 128 := a.isLt
    have e2 : (c = 2 * ((a : ℕ) / 8)) ↔ (t : ℕ) = j := by omega
    simp only [selR, e1, e2, if_true, Fin.ext_iff]

/-- A column of odd number selects nothing. -/
theorem sum_sel_odd (F G : Fin 128 → ℝ) (c : ℕ) (hc : c % 2 = 1) :
    (∑ a : Fin 128, F a * selR a c) + ∑ a : Fin 128, G a * selR (128 + a) c = 0 := by
  have h1 : (∑ a : Fin 128, F a * selR a c) = 0 := by
    refine Finset.sum_eq_zero fun a _ => ?_
    have e1 : (a : ℕ) < 128 := a.isLt
    have e2 : ¬c = 2 * ((a : ℕ) / 8) := by omega
    simp only [selR, e1, e2, if_true, if_false, mul_zero]
  have h2 : (∑ a : Fin 128, G a * selR (128 + a) c) = 0 := by
    refine Finset.sum_eq_zero fun a _ => ?_
    have e1 : ¬128 + (a : ℕ) < 128 := by omega
    have e2 : ¬c = 32 := by omega
    simp only [selR, e1, e2, if_false, mul_zero]
  rw [h1, h2, add_zero]

/-- The last column sums the second half. -/
theorem sum_sel_last (b : Fin 16 → Fin 8) (V L : Fin 16 → ℝ) :
    (∑ a : Fin 128, (if bin a = b (chan a) then V (chan a) else 0) * selR a 32)
      + ∑ a : Fin 128, (if bin a = b (chan a) then L (chan a) else 0) * selR (128 + a) 32 = ∑ j, L j := by
  have h1 : (∑ a : Fin 128, (if bin a = b (chan a) then V (chan a) else 0) * selR a 32) = 0 := by
    refine Finset.sum_eq_zero fun a _ => ?_
    have e1 : (a : ℕ) < 128 := a.isLt
    have e2 : ¬32 = 2 * ((a : ℕ) / 8) := by omega
    simp only [selR, e1, e2, if_true, if_false, mul_zero]
  have h2 : ∀ a : Fin 128, selR (128 + a) 32 = 1 := by
    intro a
    have e1 : ¬128 + (a : ℕ) < 128 := by omega
    simp only [selR, e1, if_false, if_true]
  rw [h1, zero_add]
  simp only [h2, mul_one]
  rw [Fin.sum_univ_tiles 16 8 rfl]
  refine Finset.sum_congr rfl fun j _ => ?_
  have : ∀ k : Fin 8, (if bin ⟨j * 8 + k, by omega⟩ = b (chan ⟨j * 8 + k, by omega⟩)
        then L (chan ⟨j * 8 + k, by omega⟩) else 0) = if k = b j then L j else 0 := by
    intro k
    have e1 : bin ⟨j * 8 + k, by omega⟩ = k := Fin.ext (by simp only [bin]; omega)
    have e2 : chan ⟨j * 8 + k, by omega⟩ = j := Fin.ext (by simp only [chan]; omega)
    rw [e1, e2]
  refine (Finset.sum_congr rfl fun k _ => this k).trans ?_
  rw [Finset.sum_ite_eq' Finset.univ (b j), if_pos (Finset.mem_univ _)]

/-- The extent of a bin, from exponentials of shifted logits. -/
theorem ext_shift (w : Fin 8 → ℝ) (M : ℝ) (k : Fin 8) :
    2 * cMin + 2 * cSc * Real.exp (w k - M) * (1 / ∑ i, Real.exp (w i - M)) = ext w k := by
  rw [ext, ← share_shift w M k]; ring

/-- The edge to the right of a bin, from the cumulative sum of exponentials. -/
theorem edge_shift (w : Fin 8 → ℝ) (M : ℝ) (k : Fin 8) :
    2 * cMin * ((k : ℕ) + 1) + 2 * cSc * (∑ i, Real.exp (w i - M) * if i ≤ k then 1 else 0)
        * (1 / ∑ i, Real.exp (w i - M)) = 1 + edge w (k + 1) := by
  have e : ∀ i, ext w i = 2 * cMin + 2 * cSc * Real.exp (w i - M) * (1 / ∑ i, Real.exp (w i - M)) :=
    fun i => (ext_shift w M i).symm
  simp only [edge, e]
  generalize (1 / ∑ i, Real.exp (w i - M)) = q
  generalize hE : (fun i => Real.exp (w i - M)) = E
  have hE' : ∀ i, Real.exp (w i - M) = E i := fun i => congrFun hE i
  simp only [hE']
  fin_cases k <;> simp [Fin.sum_univ_eight, Fin.le_def] <;> ring

/-- The larger of a real number and zero. -/
theorem max_zero_real (a : ℝ) : max (a : EReal) 0 = ((max a 0 : ℝ) : EReal) := by
  rw [← EReal.coe_zero, max_real]

end Cert.Spline

end
-- ==== Proof.Tables.lean ====
/- The three constant tables of the kernel, entry by entry: the channel spreader, the group sums, the selector. -/
module

public import proofs.«01_k».proof.KernelIdeal
public import Mathlib.Tactic.IntervalCases

@[expose] public section

set_option maxRecDepth 65536

noncomputable section

namespace Cert.Spline

open Idealize.ShloMosaic Cert.KernelIdeal

/-- Entry `i` of a table of 8 words. -/
def pick8 (v : Nat → BitVec 16) (i : Nat) : BitVec 16 := match i with
  | 0 => v 0
  | 1 => v 1
  | 2 => v 2
  | 3 => v 3
  | 4 => v 4
  | 5 => v 5
  | 6 => v 6
  | 7 => v 7
  | _ => 0#16

/-- The entries of a table of 8 words. -/
theorem pick8_eq (v : Nat → BitVec 16) (k : Nat) (h : k < 8) : pick8 v k = v k := by
  interval_cases k <;> rfl

/-- Entry `i` of a table of 32 words. -/
def pick32 (v : Nat → BitVec 16) (i : Nat) : BitVec 16 := match i with
  | 0 => v 0
  | 1 => v 1
  | 2 => v 2
  | 3 => v 3
  | 4 => v 4
  | 5 => v 5
  | 6 => v 6
  | 7 => v 7
  | 8 => v 8
  | 9 => v 9
  | 10 => v 10
  | 11 => v 11
  | 12 => v 12
  | 13 => v 13
  | 14 => v 14
  | 15 => v 15
  | 16 => v 16
  | 17 => v 17
  | 18 => v 18
  | 19 => v 19
  | 20 => v 20
  | 21 => v 21
  | 22 => v 22
  | 23 => v 23
  | 24 => v 24
  | 25 => v 25
  | 26 => v 26
  | 27 => v 27
  | 28 => v 28
  | 29 => v 29
  | 30 => v 30
  | 31 => v 31
  | _ => 0#16

/-- The entries of a table of 32 words. -/
theorem pick32_eq (v : Nat → BitVec 16) (k : Nat) (h : k < 32) : pick32 v k = v k := by
  interval_cases k <;> rfl

/-- Entry `i` of a table of 66 words. -/
def pick66 (v : Nat → BitVec 16) (i : Nat) : BitVec 16 := match i with
  | 0 => v 0
  | 1 => v 1
  | 2 => v 2
  | 3 => v 3
  | 4 => v 4
  | 5 => v 5
  | 6 => v 6
  | 7 => v 7
  | 8 => v 8
  | 9 => v 9
  | 10 => v 10
  | 11 => v 11
  | 12 => v 12
  | 13 => v 13
  | 14 => v 14
  | 15 => v 15
  | 16 => v 16
  | 17 => v 17
  | 18 => v 18
  | 19 => v 19
  | 20 => v 20
  | 21 => v 21
  | 22 => v 22
  | 23 => v 23
  | 24 => v 24
  | 25 => v 25
  | 26 => v 26
  | 27 => v 27
  | 28 => v 28
  | 29 => v 29
  | 30 => v 30
  | 31 => v 31
  | 32 => v 32
  | 33 => v 33
  | 34 => v 34
  | 35 => v 35
  | 36 => v 36
  | 37 => v 37
  | 38 => v 38
  | 39 => v 39
  | 40 => v 40
  | 41 => v 41
  | 42 => v 42
  | 43 => v 43
  | 44 => v 44
  | 45 => v 45
  | 46 => v 46
  | 47 => v 47
  | 48 => v 48
  | 49 => v 49
  | 50 => v 50
  | 51 => v 51
  | 52 => v 52
  | 53 => v 53
  | 54 => v 54
  | 55 => v 55
  | 56 => v 56
  | 57 => v 57
  | 58 => v 58
  | 59 => v 59
  | 60 => v 60
  | 61 => v 61
  | 62 => v 62
  | 63 => v 63
  | 64 => v 64
  | 65 => v 65
  | _ => 0#16

/-- The entries of a table of 66 words. -/
theorem pick66_eq (v : Nat → BitVec 16) (k : Nat) (h : k < 66) : pick66 v k = v k := by
  interval_cases k <;> rfl

/-- Entry `i` of a table of 128 words. -/
def pick128 (v : Nat → BitVec 16) (i : Nat) : BitVec 16 := match i with
  | 0 => v 0
  | 1 => v 1
  | 2 => v 2
  | 3 => v 3
  | 4 => v 4
  | 5 => v 5
  | 6 => v 6
  | 7 => v 7
  | 8 => v 8
  | 9 => v 9
  | 10 => v 10
  | 11 => v 11
  | 12 => v 12
  | 13 => v 13
  | 14 => v 14
  | 15 => v 15
  | 16 => v 16
  | 17 => v 17
  | 18 => v 18
  | 19 => v 19
  | 20 => v 20
  | 21 => v 21
  | 22 => v 22
  | 23 => v 23
  | 24 => v 24
  | 25 => v 25
  | 26 => v 26
  | 27 => v 27
  | 28 => v 28
  | 29 => v 29
  | 30 => v 30
  | 31 => v 31
  | 32 => v 32
  | 33 => v 33
  | 34 => v 34
  | 35 => v 35
  | 36 => v 36
  | 37 => v 37
  | 38 => v 38
  | 39 => v 39
  | 40 => v 40
  | 41 => v 41
  | 42 => v 42
  | 43 => v 43
  | 44 => v 44
  | 45 => v 45
  | 46 => v 46
  | 47 => v 47
  | 48 => v 48
  | 49 => v 49
  | 50 => v 50
  | 51 => v 51
  | 52 => v 52
  | 53 => v 53
  | 54 => v 54
  | 55 => v 55
  | 56 => v 56
  | 57 => v 57
  | 58 => v 58
  | 59 => v 59
  | 60 => v 60
  | 61 => v 61
  | 62 => v 62
  | 63 => v 63
  | 64 => v 64
  | 65 => v 65
  | 66 => v 66
  | 67 => v 67
  | 68 => v 68
  | 69 => v 69
  | 70 => v 70
  | 71 => v 71
  | 72 => v 72
  | 73 => v 73
  | 74 => v 74
  | 75 => v 75
  | 76 => v 76
  | 77 => v 77
  | 78 => v 78
  | 79 => v 79
  | 80 => v 80
  | 81 => v 81
  | 82 => v 82
  | 83 => v 83
  | 84 => v 84
  | 85 => v 85
  | 86 => v 86
  | 87 => v 87
  | 88 => v 88
  | 89 => v 89
  | 90 => v 90
  | 91 => v 91
  | 92 => v 92
  | 93 => v 93
  | 94 => v 94
  | 95 => v 95
  | 96 => v 96
  | 97 => v 97
  | 98 => v 98
  | 99 => v 99
  | 100 => v 100
  | 101 => v 101
  | 102 => v 102
  | 103 => v 103
  | 104 => v 104
  | 105 => v 105
  | 106 => v 106
  | 107 => v 107
  | 108 => v 108
  | 109 => v 109
  | 110 => v 110
  | 111 => v 111
  | 112 => v 112
  | 113 => v 113
  | 114 => v 114
  | 115 => v 115
  | 116 => v 116
  | 117 => v 117
  | 118 => v 118
  | 119 => v 119
  | 120 => v 120
  | 121 => v 121
  | 122 => v 122
  | 123 => v 123
  | 124 => v 124
  | 125 => v 125
  | 126 => v 126
  | 127 => v 127
  | _ => 0#16

/-- The entries of a table of 128 words. -/
theorem pick128_eq (v : Nat → BitVec 16) (k : Nat) (h : k < 128) : pick128 v k = v k := by
  interval_cases k <;> rfl

/-- Entry `(a, l)` of the table that spreads channel `l / 8` over its eight lanes. -/
def spreadWord (a l : Nat) : BitVec 16 := if a = 2 * (l / 8) then 0x3F80#16 else 0x0000#16

/-- Entry `(a, c)` of the table of group sums: columns below 256 sum up to a lane, the others over the whole group. -/
def groupWord (a c : Nat) : BitVec 16 :=
  if a / 8 = c % 256 / 8 then (if 256 ≤ c then 0x3F80#16 else if a ≤ c then 0x3F80#16 else 0x0000#16) else 0x0000#16

/-- Entry `(a, c)` of the selector: lane group `c / 2` of the first half, or all of the second. -/
def selWord (a c : Nat) : BitVec 16 :=
  if a < 128 then (if c = 2 * (a / 8) then 0x3F80#16 else 0x0000#16) else (if c = 32 then 0x3F80#16 else 0x0000#16)

set_option maxHeartbeats 2000000 in
/-- The first table as a table of tables. -/
theorem lit0_tree (i : Nat) : lit0t i = pick32 (fun a => pick128 (fun l => spreadWord a l) (i % 128)) (i / 128) := by
  rfl

set_option maxHeartbeats 2000000 in
/-- The third table as a table of tables. -/
theorem lit2_tree (i : Nat) :
    lit2t i = pick66 (fun q => pick128 (fun k => selWord ((128 * q + k) / 33) ((128 * q + k) % 33)) (i % 128)) (i / 128) := by
  rfl

/-- The first table spreads the channels. -/
theorem lit0_word (i : Fin 4096) : lit0 i = spreadWord (i / 128) (i % 128) := by
  show lit0t i = _
  rw [lit0_tree, pick32_eq _ _ (by omega), pick128_eq _ _ (by omega)]

/-- The third table selects. -/
theorem lit2_word (i : Fin 8448) : lit2 i = selWord (i / 33) (i % 33) := by
  show lit2t i = _
  rw [lit2_tree, pick66_eq _ _ (by omega), pick128_eq _ _ (by omega)]
  have : 128 * ((i : ℕ) / 128) + (i : ℕ) % 128 = i := by omega
  rw [this]

set_option maxHeartbeats 2000000 in
/-- The second table as a table of tables of tables. -/
theorem lit1_tree (i : Nat) :
    lit1t i = pick8 (fun q => pick128 (fun r => pick128 (fun k =>
      groupWord ((128 * q + r) / 4) (128 * ((128 * q + r) % 4) + k)) (i % 128)) (i / 128 % 128)) (i / 16384) := by
  rfl

/-- The second table sums the groups. -/
theorem lit1_word (i : Fin 131072) : lit1 i = groupWord (i / 512) (i % 512) := by
  show lit1t i = _
  rw [lit1_tree, pick8_eq _ _ (by omega), pick128_eq _ _ (by omega), pick128_eq _ _ (by omega)]
  congr 1 <;> omega

end Cert.Spline

end
-- ==== Proof.Operands.lean ====
/- What each input window's block holds: the rows of the point's block, and the operands laid out before the launch. -/
module

public import proofs.«01_k».proof.Proof.Gen.KernelIdeal.Value
public import proofs.«01_k».proof.Proof.Lanes
public import proofs.«01_k».proof.Proof.Tables
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.KernelIdeal.Operands

open Cert.KernelIdeal Cert.KernelIdeal.Gen Cert.Spline

variable (m : (ℓ : Loc nD τ sig) → Buf (Elt Ideal) ℓ)

/-- The windows' block indices. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0]
    ∧ win0_11.index t = ![t.val, 0] ∧ t.val < 32 := (by decide +kernel : ∀ t : Fin grid0.N, _)

/-- There are 32 points. -/
theorem idx_lt (t : Fin cfg0.N) : t.val < 32 := (idx t).2.2.2.2.2.2.2.2.2.2.2.2

/-- The point's rows. -/
theorem blk0 (c : Dev nD) (t : Fin cfg0.N) (r : Fin 2048) (k : Fin 32) :
    (show FVec Ideal S2048x32 .f32 from iblk m c 0 t) (ix2 r k)
      = (show FVec Ideal S65536x32 .f32 from m ((c : Thread nD τ).loc main_arg0))
          (ix2 ⟨t.val * 2048 + r, by have := idx_lt t; omega⟩ k) := by
  blk_ext [iblk, V, idx t]

/-- Window 1 holds the whole of its array at every point. -/
theorem blk1 (c : Dev nD) (t : Fin cfg0.N) :
    (show FVec Ideal S32x256 .bf16 from iblk m c 1 t) = (show FVec Ideal S32x256 .bf16 from V m c main_v19) := by
  blk_ext! [iblk, idx t]

/-- Window 2 holds the whole of its array at every point. -/
theorem blk2 (c : Dev nD) (t : Fin cfg0.N) :
    (show FVec Ideal S1x256 .f32 from iblk m c 2 t) = (show FVec Ideal S1x256 .f32 from V m c main_v20) := by
  blk_ext! [iblk, idx t]

/-- Window 3 holds the whole of its array at every point. -/
theorem blk3 (c : Dev nD) (t : Fin cfg0.N) :
    (show FVec Ideal S256x256 .bf16 from iblk m c 3 t) = (show FVec Ideal S256x256 .bf16 from V m c main_v21) := by
  blk_ext! [iblk, idx t]

/-- Window 4 holds the whole of its array at every point. -/
theorem blk4 (c : Dev nD) (t : Fin cfg0.N) :
    (show FVec Ideal S1x256 .f32 from iblk m c 4 t) = (show FVec Ideal S1x256 .f32 from V m c main_v22) := by
  blk_ext! [iblk, idx t]

/-- Window 5 holds the whole of its array at every point. -/
theorem blk5 (c : Dev nD) (t : Fin cfg0.N) :
    (show FVec Ideal S256x384 .bf16 from iblk m c 5 t) = (show FVec Ideal S256x384 .bf16 from V m c main_v23) := by
  blk_ext! [iblk, idx t]

/-- Window 6 holds the whole of its array at every point. -/
theorem blk6 (c : Dev nD) (t : Fin cfg0.N) :
    (show FVec Ideal S1x384 .f32 from iblk m c 6 t) = (show FVec Ideal S1x384 .f32 from V m c main_v17) := by
  blk_ext! [iblk, idx t]

/-- Window 7 holds the whole of its array at every point. -/
theorem blk7 (c : Dev nD) (t : Fin cfg0.N) :
    (show FVec Ideal S32x128 .bf16 from iblk m c 7 t) = (show FVec Ideal S32x128 .bf16 from V m c main_cst) := by
  blk_ext! [iblk, idx t]

/-- Window 8 holds the whole of its array at every point. -/
theorem blk8 (c : Dev nD) (t : Fin cfg0.N) :
    (show FVec Ideal S256x512 .bf16 from iblk m c 8 t) = (show FVec Ideal S256x512 .bf16 from V m c main_cst_0) := by
  blk_ext! [iblk, idx t]

/-- Window 9 holds the whole of its array at every point. -/
theorem blk9 (c : Dev nD) (t : Fin cfg0.N) :
    (show FVec Ideal S256x33 .bf16 from iblk m c 9 t) = (show FVec Ideal S256x33 .bf16 from V m c main_cst_1) := by
  blk_ext! [iblk, idx t]

/-- The word of one and the word of zero. -/
theorem word_bit (p : Prop) [Decidable p] :
    Ideal.ofBits .bf16 (if p then 0x3F80#16 else 0x0000#16) = ((if p then 1 else 0 : ℝ) : EReal) := by
  split
  · rw [Ideal.ofBits_one_bf16, EReal.coe_one]
  · rw [Ideal.ofBits_zero_bf16, EReal.coe_zero]

/-- The repeating table's word at row `a`, column `k`. -/
theorem lit0_at (i : Fin 4096) (a k : ℕ) (h : (i : ℕ) = a * 128 + k) (hk : k < 128) : lit0 i = spreadWord a k := by
  have e1 : (i : ℕ) / 128 = a := by omega
  have e2 : (i : ℕ) % 128 = k := by omega
  rw [lit0_word, e1, e2]

/-- The group sums' word at row `a`, column `k`. -/
theorem lit1_at (i : Fin 131072) (a k : ℕ) (h : (i : ℕ) = a * 512 + k) (hk : k < 512) : lit1 i = groupWord a k := by
  have e1 : (i : ℕ) / 512 = a := by omega
  have e2 : (i : ℕ) % 512 = k := by omega
  rw [lit1_word, e1, e2]

/-- The selector's word at row `a`, column `k`. -/
theorem lit2_at (i : Fin 8448) (a k : ℕ) (h : (i : ℕ) = a * 33 + k) (hk : k < 33) : lit2 i = selWord a k := by
  have e1 : (i : ℕ) / 33 = a := by omega
  have e2 : (i : ℕ) % 33 = k := by omega
  rw [lit2_word, e1, e2]

/-- The repeating table's words as real numbers. -/
theorem bits_spread (a k : ℕ) : Ideal.ofBits .bf16 (spreadWord a k) = (spreadR a k : EReal) := by
  rw [spreadWord, word_bit]; rfl

/-- The group sums' words as real numbers. -/
theorem bits_group (a k : ℕ) : Ideal.ofBits .bf16 (groupWord a k) = (groupR a k : EReal) := by
  rw [groupWord, groupR]
  by_cases h1 : a / 8 = k % 256 / 8
  · by_cases h2 : 256 ≤ k
    · rw [if_pos h1, if_pos h1, if_pos h2, if_pos h2, Ideal.ofBits_one_bf16, EReal.coe_one]
    · rw [if_pos h1, if_pos h1, if_neg h2, if_neg h2, word_bit]
  · rw [if_neg h1, if_neg h1, Ideal.ofBits_zero_bf16, EReal.coe_zero]

/-- The selector's words as real numbers. -/
theorem bits_sel (a k : ℕ) : Ideal.ofBits .bf16 (selWord a k) = (selR a k : EReal) := by
  rw [selWord, selR]
  by_cases h1 : a < 128
  · rw [if_pos h1, if_pos h1, word_bit]
  · rw [if_neg h1, if_neg h1, word_bit]

/-- The entries of the repeating table. -/
theorem ent7 (c : Dev nD) (a : Fin 32) (k : Fin 128) :
    (show FVec Ideal S32x128 .bf16 from V m c main_cst) (ix2 a k) = (spreadR a k : EReal) := by
  simp only [V, List.flatten_cons, List.flatten_nil, List.append_nil]
  open StableHlo in after_reads_simp
  exact (congrArg (Ideal.ofBits .bf16) (lit0_at (S32x128.rowMajor (ix2 a k)) a k (Shape.rowMajor_val_two _) k.isLt)).trans (bits_spread a k)

/-- The entries of the table of group sums. -/
theorem ent8 (c : Dev nD) (a : Fin 256) (k : Fin 512) :
    (show FVec Ideal S256x512 .bf16 from V m c main_cst_0) (ix2 a k) = (groupR a k : EReal) := by
  simp only [V, List.flatten_cons, List.flatten_nil, List.append_nil]
  open StableHlo in after_reads_simp
  exact (congrArg (Ideal.ofBits .bf16) (lit1_at (S256x512.rowMajor (ix2 a k)) a k (Shape.rowMajor_val_two _) k.isLt)).trans (bits_group a k)

/-- The entries of the selector. -/
theorem ent9 (c : Dev nD) (a : Fin 256) (k : Fin 33) :
    (show FVec Ideal S256x33 .bf16 from V m c main_cst_1) (ix2 a k) = (selR a k : EReal) := by
  simp only [V, List.flatten_cons, List.flatten_nil, List.append_nil]
  open StableHlo in after_reads_simp
  exact (congrArg (Ideal.ofBits .bf16) (lit2_at (S256x33.rowMajor (ix2 a k)) a k (Shape.rowMajor_val_two _) k.isLt)).trans (bits_sel a k)

section args

variable (N : Net) (c : Dev nD)

/-- The first layer's weights, a row of zeros before each row. -/
theorem ent1 (h : ∀ a k, (show FVec Ideal S16x256 .f32 from m ((c : Thread nD τ).loc main_arg1)) (ix2 a k) = (N.A0 a k : EReal))
    (a : Fin 32) (k : Fin 256) :
    (show FVec Ideal S32x256 .bf16 from V m c main_v19) (ix2 a k) = (spaced N.A0 a k : EReal) := by
  simp only [V, List.flatten_cons, List.flatten_nil, List.append_nil]
  open StableHlo in after_reads_simp
  pointwise
  by_cases h1 : (a : ℕ) % 2 = 1
  · have h2 : 1 ≤ (a : ℕ) ∧ ((a : ℕ) - 1) % 2 = 0 ∧ ((a : ℕ) - 1) / 2 < 16 := by omega
    rw [dif_pos h2, spaced, if_pos h1]
    refine (h _ _).trans ?_
    congr 2
    exact Fin.ext (by simp only; omega)
  · have h2 : ¬(1 ≤ (a : ℕ) ∧ ((a : ℕ) - 1) % 2 = 0 ∧ ((a : ℕ) - 1) / 2 < 16) := by omega
    rw [dif_neg h2, spaced, if_neg h1, EReal.coe_zero]

/-- The first bias. -/
theorem ent2 (h : ∀ k, (show FVec Ideal S256 .f32 from m ((c : Thread nD τ).loc main_arg2)) (ix1 k) = (N.c0 k : EReal)) (k : Fin 256) :
    (show FVec Ideal S1x256 .f32 from V m c main_v20) (ix2 0 k) = (N.c0 k : EReal) := by
  simp only [V, List.flatten_cons, List.flatten_nil, List.append_nil]
  open StableHlo in after_reads_simp
  pointwise
  exact h k

/-- The second layer's weights. -/
theorem ent3 (h : ∀ a k, (show FVec Ideal S256x256 .f32 from m ((c : Thread nD τ).loc main_arg3)) (ix2 a k) = (N.A1 a k : EReal))
    (a k : Fin 256) :
    (show FVec Ideal S256x256 .bf16 from V m c main_v21) (ix2 a k) = (N.A1 a k : EReal) := by
  simp only [V, List.flatten_cons, List.flatten_nil, List.append_nil]
  open StableHlo in after_reads_simp
  pointwise
  exact h a k

/-- The second bias. -/
theorem ent4 (h : ∀ k, (show FVec Ideal S256 .f32 from m ((c : Thread nD τ).loc main_arg4)) (ix1 k) = (N.c1 k : EReal)) (k : Fin 256) :
    (show FVec Ideal S1x256 .f32 from V m c main_v22) (ix2 0 k) = (N.c1 k : EReal) := by
  simp only [V, List.flatten_cons, List.flatten_nil, List.append_nil]
  open StableHlo in after_reads_simp
  pointwise
  exact h k

/-- The slopes' columns of the last layer, an eighth place of zero after each seven. -/
theorem tail5 (M : FVec Ideal S256x16x23 .f32) (a : Fin 256) (p : Fin 16) (q : Fin 8) :
    (pad S256x16x8 ![0, 0, 0] ![0, 0, 1] ![0, 0, 0]
      (extractStridedSlice S256x16x7 ![0, 0, 16] M slices_S256x16x23_S256x16x7_0_0_16)
      (sitofp .f32 (constantI S_ 32 0#32)) pads_S256x16x7_S256x16x8_000_000_010 h_S_ : FVec Ideal S256x16x8 .f32) (ix3 a p q)
      = if h : (q : ℕ) < 7 then M (ix3 a p ⟨16 + q, by omega⟩) else ((0 : ℝ) : EReal) := by
  pointwise
  have e0 : (FloatOps.sitofp (F := Ideal) FTy.f32 0#32) = ((0 : ℝ) : EReal) := by
    show ((((0#32 : BitVec 32).toInt : ℤ) : ℝ) : EReal) = _
    simp
  rw [e0]

/-- The slopes' entries of the last bias, an eighth place of zero after each seven. -/
theorem tail6 (M : FVec Ideal S16x23 .f32) (p : Fin 16) (q : Fin 8) :
    (pad S16x8 ![0, 0] ![0, 1] ![0, 0]
      (extractStridedSlice S16x7 ![0, 16] M slices_S16x23_S16x7_0_16)
      (sitofp .f32 (constantI S_ 32 0#32)) pads_S16x7_S16x8_000_010 h_S_ : FVec Ideal S16x8 .f32) (ix2 p q)
      = if h : (q : ℕ) < 7 then M (ix2 p ⟨16 + q, by omega⟩) else ((0 : ℝ) : EReal) := by
  pointwise
  have e0 : (FloatOps.sitofp (F := Ideal) FTy.f32 0#32) = ((0 : ℝ) : EReal) := by
    show ((((0#32 : BitVec 32).toInt : ℤ) : ℝ) : EReal) = _
    simp
  rw [e0]

/-- The last layer's weights, laid out in lanes. -/
theorem ent5 (h : ∀ a k, (show FVec Ideal S256x368 .f32 from m ((c : Thread nD τ).loc main_arg5)) (ix2 a k) = (N.A2 a k : EReal))
    (a : Fin 256) (k : Fin 384) :
    (show FVec Ideal S256x384 .bf16 from V m c main_v23) (ix2 a k) = (relay (N.A2 a) k : EReal) := by
  simp only [V, List.flatten_cons, List.flatten_nil, List.append_nil]
  open StableHlo in after_reads_simp
  pointwise
  open StableHlo in after_reads_simp
  pointwise
  simp only [StableHlo.TRef.toBuf, StableHlo.TRef.ofBuf, cast_eq]
  by_cases h1 : (k : ℕ) < 128
  · refine (dif_pos h1).trans ((h _ _).trans (congrArg _ ?_))
    exact (dif_pos h1 : relay (N.A2 a) k = _).symm
  by_cases h2 : (k : ℕ) < 256
  · refine (dif_neg h1).trans ((dif_pos (show (k : ℕ) - 128 < 128 by omega)).trans ((h _ _).trans (congrArg _ ?_)))
    refine (congrArg (N.A2 a) (Fin.ext ?_)).trans ((dif_neg h1).trans (dif_pos h2) : relay (N.A2 a) k = _).symm
    show ((k : ℕ) - 128) / 8 * 23 + (8 + ((k : ℕ) - 128) % 8) = ((k : ℕ) - 128) / 8 * 23 + (8 + (k : ℕ) % 8)
    omega
  refine (dif_neg h1).trans ((dif_neg (show ¬ (k : ℕ) - 128 < 128 by omega)).trans
    ((tail5 _ a ⟨((k : ℕ) - 128 - 128) / 8, by omega⟩ ⟨((k : ℕ) - 128 - 128) % 8, by omega⟩).trans ?_))
  by_cases h3 : (k : ℕ) % 8 < 7
  · refine (dif_pos (show ((k : ℕ) - 128 - 128) % 8 < 7 by omega)).trans ((h _ _).trans (congrArg _ ?_))
    refine (congrArg (N.A2 a) (Fin.ext ?_)).trans ((dif_neg h1).trans ((dif_neg h2).trans (dif_pos h3)) : relay (N.A2 a) k = _).symm
    show ((k : ℕ) - 128 - 128) / 8 * 23 + (16 + ((k : ℕ) - 128 - 128) % 8) = ((k : ℕ) - 256) / 8 * 23 + (16 + (k : ℕ) % 8)
    omega
  · refine (dif_neg (show ¬ ((k : ℕ) - 128 - 128) % 8 < 7 by omega)).trans (congrArg _ ?_)
    exact ((dif_neg h1).trans ((dif_neg h2).trans (dif_neg h3)) : relay (N.A2 a) k = _).symm

/-- The last bias, laid out in lanes. -/
theorem ent6 (h : ∀ k, (show FVec Ideal S368 .f32 from m ((c : Thread nD τ).loc main_arg6)) (ix1 k) = (N.c2 k : EReal)) (k : Fin 384) :
    (show FVec Ideal S1x384 .f32 from V m c main_v17) (ix2 0 k) = (relay N.c2 k : EReal) := by
  simp only [V, List.flatten_cons, List.flatten_nil, List.append_nil]
  open StableHlo in after_reads_simp
  pointwise
  open StableHlo in after_reads_simp
  pointwise
  simp only [StableHlo.TRef.toBuf, StableHlo.TRef.ofBuf, cast_eq]
  by_cases h1 : (k : ℕ) < 128
  · refine (dif_pos h1).trans ((h _).trans (congrArg _ ?_))
    exact (dif_pos h1 : relay N.c2 k = _).symm
  by_cases h2 : (k : ℕ) < 256
  · refine (dif_neg h1).trans ((dif_pos (show (k : ℕ) - 128 < 128 by omega)).trans ((h _).trans (congrArg _ ?_)))
    refine (congrArg N.c2 (Fin.ext ?_)).trans ((dif_neg h1).trans (dif_pos h2) : relay N.c2 k = _).symm
    show ((k : ℕ) - 128) / 8 * 23 + (8 + ((k : ℕ) - 128) % 8) = ((k : ℕ) - 128) / 8 * 23 + (8 + (k : ℕ) % 8)
    omega
  refine (dif_neg h1).trans ((dif_neg (show ¬ (k : ℕ) - 128 < 128 by omega)).trans
    ((tail6 _ ⟨((k : ℕ) - 128 - 128) / 8, by omega⟩ ⟨((k : ℕ) - 128 - 128) % 8, by omega⟩).trans ?_))
  by_cases h3 : (k : ℕ) % 8 < 7
  · refine (dif_pos (show ((k : ℕ) - 128 - 128) % 8 < 7 by omega)).trans ((h _).trans (congrArg _ ?_))
    refine (congrArg N.c2 (Fin.ext ?_)).trans ((dif_neg h1).trans ((dif_neg h2).trans (dif_pos h3)) : relay N.c2 k = _).symm
    show ((k : ℕ) - 128 - 128) / 8 * 23 + (16 + ((k : ℕ) - 128 - 128) % 8) = ((k : ℕ) - 256) / 8 * 23 + (16 + (k : ℕ) % 8)
    omega
  · refine (dif_neg (show ¬ ((k : ℕ) - 128 - 128) % 8 < 7 by omega)).trans (congrArg _ ?_)
    exact ((dif_neg h1).trans ((dif_neg h2).trans (dif_neg h3)) : relay N.c2 k = _).symm

end args

end Cert.KernelIdeal.Operands

end
-- ==== Proof.BlockNet.lean ====
/- One row of one block: the network, the extents, the edges and the slopes in their lanes. -/
module

public import proofs.«01_k».proof.Proof.Gen.KernelIdeal.Frame
public import proofs.«01_k».proof.Proof.Lanes

@[expose] public section

set_option maxRecDepth 16384

noncomputable section

open Idealize.ShloMosaic Idealize.ShloMosaic.TcCoe Idealize.SL.Sem

namespace Cert.KernelIdeal.Block

open Cert.KernelIdeal Cert.KernelIdeal.Gen Cert.Spline

variable (r : Fin 2048)

/-- The network's logits, laid out in lanes. -/
theorem pay3_row (N : Net) (xr : Fin 32 → ℝ) (v0 : FVec Ideal S2048x32 .f32) (v2 : FVec Ideal S32x256 .bf16)
    (v5 : FVec Ideal S1x256 .f32) (v12 : FVec Ideal S256x256 .bf16) (v15 : FVec Ideal S1x256 .f32)
    (v22 : FVec Ideal S256x384 .bf16) (v25 : FVec Ideal S1x384 .f32)
    (h0 : ∀ c, v0 (ix2 r c) = (xr c : EReal)) (h2 : ∀ a c, v2 (ix2 a c) = (spaced N.A0 a c : EReal))
    (h5 : ∀ c, v5 (ix2 0 c) = (N.c0 c : EReal)) (h12 : ∀ a c, v12 (ix2 a c) = (N.A1 a c : EReal))
    (h15 : ∀ c, v15 (ix2 0 c) = (N.c1 c : EReal)) (h22 : ∀ a c, v22 (ix2 a c) = (relay (N.A2 a) c : EReal))
    (h25 : ∀ c, v25 (ix2 0 c) = (relay N.c2 c : EReal)) (c : Fin 384) :
    k0_pay3 (F := Ideal) v0 v2 v5 v12 v15 v22 v25 (ix2 r c) = (relay (N.raw xr) c : EReal) := by
  pointwise [k0_pay3]
  simp only [h0, h2, h5, h12, h15, h22, h25, ← EReal.coe_mul, ← coe_sum, ← EReal.coe_add, max_zero_real]
  simp only [sum_spaced]
  exact congrArg _ (relay_raw N xr c)

/-- The first 256 lanes of the network's result: the widths and the heights. -/
theorem pay4_row (z : Fin 384 → ℝ) (v0 : FVec Ideal S2048x32 .f32) (v2 : FVec Ideal S32x256 .bf16)
    (v5 : FVec Ideal S1x256 .f32) (v12 : FVec Ideal S256x256 .bf16) (v15 : FVec Ideal S1x256 .f32)
    (v22 : FVec Ideal S256x384 .bf16) (v25 : FVec Ideal S1x384 .f32)
    (h : ∀ c, k0_pay3 (F := Ideal) v0 v2 v5 v12 v15 v22 v25 (ix2 r c) = (z c : EReal)) (c : Fin 256) :
    k0_pay4 (F := Ideal) v0 v2 v5 v12 v15 v22 v25 (ix2 r c) = (z ⟨c, by omega⟩ : EReal) := by
  pointwise [k0_pay4]
  exact h _

/-- The last 128 lanes of the network's result: the derivatives. -/
theorem pay5_row (z : Fin 384 → ℝ) (v0 : FVec Ideal S2048x32 .f32) (v2 : FVec Ideal S32x256 .bf16)
    (v5 : FVec Ideal S1x256 .f32) (v12 : FVec Ideal S256x256 .bf16) (v15 : FVec Ideal S1x256 .f32)
    (v22 : FVec Ideal S256x384 .bf16) (v25 : FVec Ideal S1x384 .f32)
    (h : ∀ c, k0_pay3 (F := Ideal) v0 v2 v5 v12 v15 v22 v25 (ix2 r c) = (z c : EReal)) (c : Fin 128) :
    k0_pay5 (F := Ideal) v0 v2 v5 v12 v15 v22 v25 (ix2 r c) = (z ⟨256 + c, by omega⟩ : EReal) := by
  pointwise [k0_pay5]
  exact h _

/-- The remainder's word, adjusted as for a remainder of the divisor's sign, is the lane's number in its group. -/
theorem rem_word : ∀ c : Fin 256, (Scalar.select
      (IntOp.andi
        (IntOp.xori
          (IntOp.cmpi CmpIPredicate.slt
            (IntOp.remsi ArithUnit.vector (BitVec.ofNat 32 ↑c)
              (Scalar.select (Scalar.cmpi CmpIPredicate.eq 8#32 0#32) 1#32 8#32))
            0#32)
          (Scalar.cmpi CmpIPredicate.slt (Scalar.select (Scalar.cmpi CmpIPredicate.eq 8#32 0#32) 1#32 8#32)
            0#32))
        (IntOp.cmpi CmpIPredicate.ne
          (IntOp.remsi ArithUnit.vector (BitVec.ofNat 32 ↑c)
            (Scalar.select (Scalar.cmpi CmpIPredicate.eq 8#32 0#32) 1#32 8#32))
          0#32))
      (IntOp.addi
        (IntOp.remsi ArithUnit.vector (BitVec.ofNat 32 ↑c)
          (Scalar.select (Scalar.cmpi CmpIPredicate.eq 8#32 0#32) 1#32 8#32))
        (Scalar.select (Scalar.cmpi CmpIPredicate.eq 8#32 0#32) 1#32 8#32))
      (IntOp.remsi ArithUnit.vector (BitVec.ofNat 32 ↑c)
        (Scalar.select (Scalar.cmpi CmpIPredicate.eq 8#32 0#32) 1#32 8#32))) = BitVec.ofNat 32 (c % 8) := by
  decide +kernel

/-- A small number read back from its word. -/
theorem word_toInt : ∀ k : Fin 8, (BitVec.ofNat 32 k).toInt = (k : ℕ) := by decide

/-- The word of a lane's number in its group, as a real number. -/
theorem word_real (c : ℕ) :
    (FloatOps.sitofp (F := Ideal) .f32 (BitVec.ofNat 32 (c % 8)) : EReal) = ((c % 8 : ℕ) : ℝ) := by
  have := word_toInt ⟨c % 8, by omega⟩
  show (((BitVec.ofNat 32 (c % 8)).toInt : ℝ) : EReal) = _
  rw [this, Int.cast_natCast]

/-- The lane's number in its group, as a float. -/
theorem pay8_row (l : Fin 128) :
    k0_pay8 (F := Ideal) (Scalar.select (Scalar.cmpi .eq 8#32 0#32) 1#32 8#32) k0_pay6 0#32 (ix2 0 l)
      = (((bin l : Fin 8) : ℕ) : ℝ) := by
  pointwise [k0_pay8, k0_pay7, k0_pay6]
  have := rem_word ⟨l, by omega⟩
  simp only at this
  rw [this, word_real]; rfl

/-- The exponentials, of logits shifted by one number for the row. -/
theorem pay9_row (z : Fin 256 → ℝ) (v29 : FVec Ideal S2048x256 .f32) (h : ∀ c, v29 (ix2 r c) = (z c : EReal)) :
    ∃ M : ℝ, ∀ c, k0_pay9 (F := Ideal) v29 (ix2 r c) = (Real.exp (z c - M) : EReal) := by
  obtain ⟨M, hM⟩ := fold_max_real z
  refine ⟨M, fun c => ?_⟩
  pointwise [k0_pay9]
  simp only [h, word_bot]
  rw [hM, ← EReal.coe_sub, Ideal.exp_coe]

/-- Sums of the exponentials against the table of group sums. -/
theorem pay10_row (e : Fin 256 → ℝ) (v29 : FVec Ideal S2048x256 .f32) (v55 : FVec Ideal S256x512 .bf16)
    (h : ∀ c, k0_pay9 (F := Ideal) v29 (ix2 r c) = (e c : EReal))
    (h55 : ∀ a c, v55 (ix2 a c) = (groupR a c : EReal)) (c : Fin 512) :
    k0_pay10 (F := Ideal) v29 v55 (ix2 r c) = ((∑ a, e a * groupR a c : ℝ) : EReal) := by
  pointwise [k0_pay10]
  simp only [h, h55, ← EReal.coe_sub, ← EReal.coe_mul, ← coe_sum, ← EReal.coe_add, sub_self, zero_mul,
    Finset.sum_const_zero, add_zero]

variable (z : Fin 256 → ℝ) (v29 : FVec Ideal S2048x256 .f32) (v55 : FVec Ideal S256x512 .bf16)

/-- The logits of one group of eight lanes. -/
def grp (z : Fin 256 → ℝ) (g : Fin 32) (k : Fin 8) : ℝ := z ⟨g * 8 + k, by omega⟩

/-- The reciprocal of the group's sum. -/
theorem pay11_row (e : Fin 256 → ℝ) (h9 : ∀ c, k0_pay9 (F := Ideal) v29 (ix2 r c) = (e c : EReal))
    (hpos : ∀ c, 0 < e c)
    (h55 : ∀ a c, v55 (ix2 a c) = (groupR a c : EReal)) (g : Fin 32) (k : Fin 8) (c : Fin 256) (hc : (c : ℕ) = g * 8 + k) :
    k0_pay11 (F := Ideal) v29 v55 (ix2 r c) = ((1 / ∑ i, grp e g i : ℝ) : EReal) := by
  pointwise [k0_pay11]
  rw [pay10_row r e v29 v55 h9 h55, sum_group_hi e g k _ (by simp only [hc])]
  have : (∑ i : Fin 8, e ⟨g * 8 + i, by omega⟩) ≠ 0 :=
    (Finset.sum_pos (fun i _ => hpos _) Finset.univ_nonempty).ne'
  rw [← EReal.coe_one, div_real _ this]; rfl

/-- The extents in their lanes. -/
theorem pay12_row (h : ∀ c, v29 (ix2 r c) = (z c : EReal))
    (h55 : ∀ a c, v55 (ix2 a c) = (groupR a c : EReal)) (g : Fin 32) (k : Fin 8) (c : Fin 256) (hc : (c : ℕ) = g * 8 + k) :
    k0_pay12 (F := Ideal) v29 v55 (ix2 r c) = (ext (grp z g) k : EReal) := by
  obtain ⟨M, h9⟩ := pay9_row r z v29 h
  pointwise [k0_pay12]
  rw [pay11_row r v29 v55 _ h9 (fun _ => Real.exp_pos _) h55 g k c hc, h9, word_min2, word_sc2]
  simp only [← EReal.coe_mul, ← EReal.coe_add]
  rw [← ext_shift (grp z g) M k]
  have : c = ⟨g * 8 + k, by omega⟩ := Fin.ext hc
  rw [this]; rfl

/-- The edges in their lanes, less the left end. -/
theorem pay13_row (h : ∀ c, v29 (ix2 r c) = (z c : EReal))
    (h55 : ∀ a c, v55 (ix2 a c) = (groupR a c : EReal)) (g : Fin 32) (k : Fin 8) (c : Fin 256) (hc : (c : ℕ) = g * 8 + k) :
    k0_pay13 (F := Ideal) v29 (Scalar.select (Scalar.cmpi .eq 8#32 0#32) 1#32 8#32) k0_pay6 0#32 v55 (ix2 r c)
      = ((1 + edge (grp z g) (k + 1) : ℝ) : EReal) := by
  obtain ⟨M, h9⟩ := pay9_row r z v29 h
  pointwise [k0_pay13, k0_pay7, k0_pay6]
  rw [pay11_row r v29 v55 _ h9 (fun _ => Real.exp_pos _) h55 g k c hc, pay10_row r _ v29 v55 h9 h55,
    sum_group_lo _ g k _ (by simp only [hc]), rem_word, word_real, word_min2, word_sc2]
  simp only [← EReal.coe_one, ← EReal.coe_mul, ← EReal.coe_add]
  have : (c : ℕ) % 8 = k := by omega
  rw [← edge_shift (grp z g) M k, this]; rfl

/-- The widths in their lanes. -/
theorem pay14_row (h : ∀ c, v29 (ix2 r c) = (z c : EReal))
    (h55 : ∀ a c, v55 (ix2 a c) = (groupR a c : EReal)) (l : Fin 128) :
    k0_pay14 (F := Ideal) v29 v55 (ix2 r l) = (ext (grp z ⟨chan l, by have := (chan l).isLt; omega⟩) (bin l) : EReal) := by
  pointwise [k0_pay14]
  exact pay12_row r z v29 v55 h h55 _ _ _ (by simp only [chan, bin]; omega)

/-- The heights in their lanes. -/
theorem pay15_row (h : ∀ c, v29 (ix2 r c) = (z c : EReal))
    (h55 : ∀ a c, v55 (ix2 a c) = (groupR a c : EReal)) (l : Fin 128) :
    k0_pay15 (F := Ideal) v29 v55 (ix2 r l)
      = (ext (grp z ⟨16 + chan l, by have := (chan l).isLt; omega⟩) (bin l) : EReal) := by
  pointwise [k0_pay15]
  exact pay12_row r z v29 v55 h h55 _ _ _ (by simp only [chan, bin]; omega)

/-- The right edges of the heights in their lanes, less the lower end. -/
theorem pay16_row (h : ∀ c, v29 (ix2 r c) = (z c : EReal))
    (h55 : ∀ a c, v55 (ix2 a c) = (groupR a c : EReal)) (l : Fin 128) :
    k0_pay16 (F := Ideal)
        (k0_pay13 v29 (Scalar.select (Scalar.cmpi .eq 8#32 0#32) 1#32 8#32) k0_pay6 0#32 v55) (ix2 r l)
      = ((1 + edge (grp z ⟨16 + chan l, by have := (chan l).isLt; omega⟩) (bin l + 1) : ℝ) : EReal) := by
  pointwise [k0_pay16]
  exact pay13_row r z v29 v55 h h55 _ _ _ (by simp only [chan, bin]; omega)

/-- The right edges of the widths in their lanes. -/
theorem pay21_row (h : ∀ c, v29 (ix2 r c) = (z c : EReal))
    (h55 : ∀ a c, v55 (ix2 a c) = (groupR a c : EReal)) (l : Fin 128) :
    k0_pay21 (F := Ideal)
        (k0_pay13 v29 (Scalar.select (Scalar.cmpi .eq 8#32 0#32) 1#32 8#32) k0_pay6 0#32 v55) (ix2 r l)
      = (edge (grp z ⟨chan l, by have := (chan l).isLt; omega⟩) (bin l + 1) : EReal) := by
  pointwise [k0_pay21]
  rw [pay13_row r z v29 v55 h h55 ⟨chan l, by have := (chan l).isLt; omega⟩ (bin l) _ (by simp only [chan, bin]; omega),
    word_neg_one, ← EReal.coe_add]
  congr 1; ring

/-- The number of a lane is seven just at its group's end. -/
theorem seven_iff (k : Fin 8) : ((((k : ℕ) : ℝ) : EReal) = ((7 : ℝ) : EReal)) ↔ k = 7 := by
  rw [EReal.coe_eq_coe_iff]
  constructor
  · intro h; have : (k : ℕ) = 7 := by exact_mod_cast h
    exact Fin.ext this
  · intro h; subst h; norm_num

/-- The number of a lane is zero just at its group's start. -/
theorem zero_iff (k : Fin 8) : ((((k : ℕ) : ℝ) : EReal) = 0) ↔ k = 0 := by
  rw [← EReal.coe_zero, EReal.coe_eq_coe_iff]
  constructor
  · intro h; have : (k : ℕ) = 0 := by exact_mod_cast h
    exact Fin.ext this
  · intro h; subst h; norm_num

/-- The slope at the right edge of each lane's bin. -/
theorem pay17_row (d : Fin 16 → Fin 7 → ℝ) (zd : Fin 128 → ℝ) (v30 : FVec Ideal S2048x128 .f32) (v49 : FVec Ideal S1x128 .f32)
    (h30 : ∀ l, v30 (ix2 r l) = (zd l : EReal))
    (hd : ∀ (j : Fin 16) (k : Fin 7) (l : Fin 128), (l : ℕ) = 8 * j + k → zd l = d j k)
    (h49 : ∀ l, v49 (ix2 0 l) = (((bin l : Fin 8) : ℕ) : ℝ)) (l : Fin 128) :
    k0_pay17 (F := Ideal) v30 v49 (ix2 r l) = (Spline.slope (d (chan l)) (bin l + 1) : EReal) := by
  pointwise [k0_pay17]
  simp only [h49, word_seven, seven_iff]
  by_cases h7 : bin l = 7
  · have : ¬(1 ≤ (bin l : ℕ) + 1 ∧ (bin l : ℕ) + 1 < 8) := by rw [h7]; decide
    rw [if_pos h7, Spline.slope, dif_neg this]; rfl
  · have h7' : (bin l : ℕ) < 7 := by
      have := (bin l).isLt
      have : (bin l : ℕ) ≠ 7 := fun h => h7 (Fin.ext h)
      omega
    have : 1 ≤ (bin l : ℕ) + 1 ∧ (bin l : ℕ) + 1 < 8 := by omega
    rw [if_neg h7, Spline.slope, dif_pos this, softplus]
    rw [h30, hd (chan l) ⟨bin l, h7'⟩ l (by simp only [chan, bin]; omega), word_d, word_min]
    rw [Ideal.absf_def]
    simp only [← EReal.coe_add, max_zero_real, ← EReal.coe_neg, max_real]
    rw [← EReal.coe_zero, ← EReal.coe_sub, Ideal.exp_coe, ← EReal.coe_one, ← EReal.coe_add,
      log_real (by linarith [Real.exp_pos (0 - max (d (chan l) ⟨bin l, h7'⟩ + cD) (-(d (chan l) ⟨bin l, h7'⟩ + cD)))]),
      ← EReal.coe_add, ← EReal.coe_add, zero_sub, ← abs_eq_max_neg]
    rfl

end Cert.KernelIdeal.Block

end
-- ==== Proof.BlockSpline.lean ====
/- One row of one block: the point, its bin, and the spline's value at the selected lane. -/
module

public import proofs.«01_k».proof.Proof.BlockNet

@[expose] public section

set_option maxRecDepth 16384

noncomputable section

open Idealize.ShloMosaic Idealize.ShloMosaic.TcCoe Idealize.SL.Sem

namespace Cert.KernelIdeal.Block

open Cert.KernelIdeal Cert.KernelIdeal.Gen Cert.Spline

variable (r : Fin 2048)

section point

variable (x : Fin 16 → ℝ) (xr : Fin 32 → ℝ) (v0 : FVec Ideal S2048x32 .f32) (v105 : FVec Ideal S32x128 .bf16)
  (h0 : ∀ c, v0 (ix2 r c) = (xr c : EReal)) (h105 : ∀ a c, v105 (ix2 a c) = (spreadR a c : EReal))
  (hx : ∀ j : Fin 16, xr ⟨j * 2, by omega⟩ = x j)

include h0 h105 hx in
/-- The point of each lane's channel. -/
theorem pay18_row (l : Fin 128) : k0_pay18 (F := Ideal) v0 v105 (ix2 r l) = (x (chan l) : EReal) := by
  pointwise [k0_pay18]
  simp only [h0, h105, ← EReal.coe_sub, ← EReal.coe_mul, ← coe_sum, ← EReal.coe_add, sub_self, zero_mul,
    Finset.sum_const_zero, add_zero]
  rw [sum_spread, hx]

include h0 h105 hx in
/-- Whether the point lies outside. -/
theorem pay19_row (l : Fin 128) :
    k0_pay19 (F := Ideal) v0 v105 (ix2 r l) = BitVec.ofBool (decide (Outside (x (chan l)))) := by
  pointwise [k0_pay19]
  simp only [pay18_row r x xr v0 v105 h0 h105 hx, word_lim, word_neg_lim, EReal.coe_le_coe_iff]
  by_cases h1 : x (chan l) ≤ -cLim <;> by_cases h2 : cLim ≤ x (chan l) <;> simp [Outside, h1, h2, IntOp.ori]

include h0 h105 hx in
/-- The point, zero when outside. -/
theorem pay20_row (l : Fin 128) : k0_pay20 (F := Ideal) v0 v105 (ix2 r l) = (Spline.inner (x (chan l)) : EReal) := by
  pointwise [k0_pay20]
  rw [pay19_row r x xr v0 v105 h0 h105 hx, pay18_row r x xr v0 v105 h0 h105 hx, Spline.inner]
  by_cases h : Outside (x (chan l)) <;> simp [h, Scalar.select]

include h0 h105 hx in
/-- Whether a lane's right edge lies at or below the point. -/
theorem pay22_row (w : Fin 16 → Fin 8 → ℝ) (b : Fin 16 → Fin 8) (hb : ∀ j, InBin (w j) (x j) (b j))
    (v80 : FVec Ideal S2048x256 .f32)
    (h80 : ∀ l, k0_pay21 (F := Ideal) v80 (ix2 r l) = (edge (w (chan l)) (bin l + 1) : EReal)) (l : Fin 128) :
    k0_pay22 (F := Ideal) v0 v80 v105 (ix2 r l) = if bin l < b (chan l) then 1 else 0 := by
  pointwise [k0_pay22]
  simp only [h80, pay20_row r x xr v0 v105 h0 h105 hx, EReal.coe_le_coe_iff, edge_le_iff (hb _), Fin.lt_def]
  rfl

end point

/-- The lane of the bin in which the point lies is marked by one, the others by zero. -/
theorem pay23_row (b : Fin 16 → Fin 8) (v49 : FVec Ideal S1x128 .f32) (v125 : FVec Ideal S2048x128 .f32)
    (h49 : ∀ l, v49 (ix2 0 l) = (((bin l : Fin 8) : ℕ) : ℝ))
    (h125 : ∀ l, v125 (ix2 r l) = if bin l < b (chan l) then 1 else 0) (l : Fin 128) :
    k0_pay23 (F := Ideal) v49 v125 (ix2 r l) = if bin l = b (chan l) then 1 else 0 := by
  pointwise [k0_pay23]
  simp only [h49, h125, word_seven, seven_iff, zero_iff]
  have hl := (bin l).isLt
  have hv : (bin l : ℕ) = (l : ℕ) % 8 := rfl
  by_cases h0 : bin l = 0
  · have h0' : (bin l : ℕ) = 0 := by rw [h0]; rfl
    have h7 : ¬bin l = 7 := by rw [h0]; decide
    simp only [h0, if_true, one_mul]
    have : ¬((0 : Fin 8) = 7) := by decide
    rw [if_neg this]
    by_cases hb : b (chan l) = 0
    · rw [hb]; simp
    · have h1 : (0 : Fin 8) < b (chan l) := Fin.pos_iff_ne_zero.mpr hb
      rw [if_pos h1, if_neg (fun h => hb h.symm)]
      rw [← EReal.coe_one, ← EReal.coe_sub, sub_self]; rfl
  · have h0' : (bin l : ℕ) ≠ 0 := fun h => h0 (Fin.ext h)
    generalize hm : (⟨((l : ℕ) + 128 - 1) % 128, by omega⟩ : Fin 128) = m
    have hm' : (m : ℕ) = ((l : ℕ) + 128 - 1) % 128 := by rw [← hm]
    have e1 : chan m = chan l := Fin.ext (by simp only [chan]; omega)
    have e2 : (bin m : ℕ) + 1 = bin l := by simp only [bin]; omega
    have hbl := (b (chan l)).isLt
    rw [if_neg h0, e1]
    have c1 : bin m < b (chan l) ↔ (bin l : ℕ) ≤ b (chan l) := by rw [Fin.lt_def]; omega
    simp only [c1, Fin.lt_def, Fin.ext_iff]
    rcases lt_trichotomy (bin l : ℕ) (b (chan l)) with h | h | h
    · have h7 : ¬(bin l : ℕ) = (7 : Fin 8) := by show ¬(bin l : ℕ) = 7; omega
      rw [if_pos h.le, if_neg h7, if_pos h, if_neg h.ne, one_mul, ← EReal.coe_one, ← EReal.coe_sub, sub_self]; rfl
    · have n1 : ¬(bin l : ℕ) < b (chan l) := by omega
      rw [if_pos h.le, if_neg n1, if_pos h, one_mul, sub_zero, ite_self]
    · have n1 : ¬(bin l : ℕ) ≤ b (chan l) := by omega
      have n2 : ¬(bin l : ℕ) = b (chan l) := by omega
      rw [if_neg n1, if_neg n2, zero_mul]

/-- The lower end of each lane's bin of heights. -/
theorem pay24_row (h : Fin 16 → Fin 8 → ℝ) (v82 v84 : FVec Ideal S2048x128 .f32)
    (h82 : ∀ l, v82 (ix2 r l) = (ext (h (chan l)) (bin l) : EReal))
    (h84 : ∀ l, v84 (ix2 r l) = ((1 + edge (h (chan l)) (bin l + 1) : ℝ) : EReal)) (l : Fin 128) :
    k0_pay24 (F := Ideal) v82 v84 (ix2 r l) = (edge (h (chan l)) (bin l) : EReal) := by
  pointwise [k0_pay24]
  rw [h82, h84, word_neg_one, ← EReal.coe_add, ← EReal.coe_sub, edge_succ]
  congr 1; ring

/-- The slope at the left edge of each lane's bin. -/
theorem pay25_row (d : Fin 16 → Fin 7 → ℝ) (v49 : FVec Ideal S1x128 .f32) (v104 : FVec Ideal S2048x128 .f32)
    (h49 : ∀ l, v49 (ix2 0 l) = (((bin l : Fin 8) : ℕ) : ℝ))
    (h104 : ∀ l, v104 (ix2 r l) = (Spline.slope (d (chan l)) (bin l + 1) : EReal)) (l : Fin 128) :
    k0_pay25 (F := Ideal) v49 v104 (ix2 r l) = (Spline.slope (d (chan l)) (bin l) : EReal) := by
  pointwise [k0_pay25]
  simp only [h49, zero_iff, h104]
  have hv : (bin l : ℕ) = (l : ℕ) % 8 := rfl
  by_cases h0 : bin l = 0
  · rw [if_pos h0, h0, Spline.slope, dif_neg (by decide)]; rfl
  · have h0' : (bin l : ℕ) ≠ 0 := fun h => h0 (Fin.ext h)
    generalize hm : (⟨((l : ℕ) + 128 - 1) % 128, by omega⟩ : Fin 128) = m
    have hm' : (m : ℕ) = ((l : ℕ) + 128 - 1) % 128 := by rw [← hm]
    have e1 : chan m = chan l := Fin.ext (by simp only [chan]; omega)
    have e2 : (bin m : ℕ) + 1 = bin l := by simp only [bin]; omega
    rw [if_neg h0, e1, e2]

section lane

variable (w h : Fin 16 → Fin 8 → ℝ) (d : Fin 16 → Fin 7 → ℝ) (x : Fin 16 → ℝ) (b : Fin 16 → Fin 8)
  (v49 : FVec Ideal S1x128 .f32) (v81 v82 v104 v119 v121 : FVec Ideal S2048x128 .f32)
  (h49 : ∀ l, v49 (ix2 0 l) = (((bin l : Fin 8) : ℕ) : ℝ))
  (h81 : ∀ l, v81 (ix2 r l) = (ext (w (chan l)) (bin l) : EReal))
  (h82 : ∀ l, v82 (ix2 r l) = (ext (h (chan l)) (bin l) : EReal))
  (h104 : ∀ l, v104 (ix2 r l) = (Spline.slope (d (chan l)) (bin l + 1) : EReal))
  (h119 : ∀ l, v119 (ix2 r l) = (Spline.inner (x (chan l)) : EReal))
  (h121 : ∀ l, v121 (ix2 r l) = (edge (w (chan l)) (bin l + 1) : EReal))
  (hb : ∀ j, InBin (w j) (x j) (b j))

include h81 h82 in
/-- The mean slope of each lane's bin. -/
theorem pay26_row (l : Fin 128) :
    k0_pay26 (F := Ideal) v81 v82 (ix2 r l) = (mean (w (chan l)) (h (chan l)) (bin l) : EReal) := by
  pointwise [k0_pay26]
  rw [h81, h82, div_real _ (ext_pos _ _).ne']; rfl

variable (l : Fin 128) (hl : bin l = b (chan l))

include h81 h119 h121 hb hl in
/-- Where in its bin the point lies, at the selected lane. -/
theorem pay27_row : k0_pay27 (F := Ideal) v81 v119 v121 (ix2 r l) = (pos (w (chan l)) (x (chan l)) (bin l) : EReal) := by
  pointwise [k0_pay27]
  rw [h81, h119, h121, ← EReal.coe_sub, ← EReal.coe_sub, div_real _ (ext_pos _ _).ne']
  have e : (Spline.inner (x (chan l)) - (edge (w (chan l)) (bin l + 1) - ext (w (chan l)) (bin l))) / ext (w (chan l)) (bin l)
      = pos (w (chan l)) (x (chan l)) (bin l) := by rw [pos, edge_succ, add_sub_cancel_right]
  rw [e]
  obtain ⟨p0, p1⟩ := pos_bounds (hb (chan l))
  rw [← hl] at p0 p1
  simp only [← EReal.coe_zero, ← EReal.coe_one, max_real, min_real]
  rw [max_eq_right p0, min_eq_right p1]

include h49 h81 h82 h104 h119 h121 hb hl in
/-- The denominator at the selected lane. -/
theorem pay31_row : k0_pay31 (F := Ideal) v49 v81 v82 v104 v119 v121 (ix2 r l)
    = (den (w (chan l)) (h (chan l)) (d (chan l)) (x (chan l)) (bin l) : EReal) := by
  pointwise [k0_pay31, k0_pay28, k0_pay29]
  simp only [pay26_row r w h v81 v82 h81 h82, pay25_row r d v49 v104 h49 h104, h104,
    pay27_row r w x b v81 v119 v121 h81 h119 h121 hb l hl, word_two, ← EReal.coe_one, ← EReal.coe_sub, ← EReal.coe_mul,
    ← EReal.coe_add]
  rfl

end lane

/-- A factor outside a choice between zero and another number. -/
theorem select_mul (m : BitVec 1) (X o : EReal) : Scalar.select m 0 (X * o) = Scalar.select m 0 X * o := by
  unfold Scalar.select; split <;> simp

/-- The parity of a column, adjusted as for a remainder of the divisor's sign. -/
theorem parity_word : ∀ c : Fin 32, IntOp.cmpi CmpIPredicate.eq
      (Scalar.select
        (IntOp.andi
          (IntOp.xori
            (IntOp.cmpi CmpIPredicate.slt
              (IntOp.remsi ArithUnit.vector (BitVec.ofNat 32 ↑c)
                (Scalar.select (Scalar.cmpi CmpIPredicate.eq 2#32 0#32) 1#32 2#32))
              0#32)
            (Scalar.cmpi CmpIPredicate.slt (Scalar.select (Scalar.cmpi CmpIPredicate.eq 2#32 0#32) 1#32 2#32) 0#32))
          (IntOp.cmpi CmpIPredicate.ne
            (IntOp.remsi ArithUnit.vector (BitVec.ofNat 32 ↑c)
              (Scalar.select (Scalar.cmpi CmpIPredicate.eq 2#32 0#32) 1#32 2#32))
            0#32))
        (IntOp.addi
          (IntOp.remsi ArithUnit.vector (BitVec.ofNat 32 ↑c)
            (Scalar.select (Scalar.cmpi CmpIPredicate.eq 2#32 0#32) 1#32 2#32))
          (Scalar.select (Scalar.cmpi CmpIPredicate.eq 2#32 0#32) 1#32 2#32))
        (IntOp.remsi ArithUnit.vector (BitVec.ofNat 32 ↑c)
          (Scalar.select (Scalar.cmpi CmpIPredicate.eq 2#32 0#32) 1#32 2#32)))
      1#32 = BitVec.ofBool (decide ((c : ℕ) % 2 = 1)) := by
  decide +kernel

/-- The last sums of a row: over the selected lanes only. -/
theorem pay34_row (b : Fin 16 → Fin 8) (V L : Fin 16 → ℝ)
    (v82 v104 v112 : FVec Ideal S2048x128 .f32) (v117 : IVec S2048x128 1)
    (v141 v145 v152 v153 v161 v162 v163 v169 v170 v171 : FVec Ideal S2048x128 .f32) (v195 : FVec Ideal S256x33 .bf16)
    (h141 : ∀ l, v141 (ix2 r l) = if bin l = b (chan l) then 1 else 0)
    (hV : ∀ l, bin l = b (chan l) → Scalar.select (v117 (ix2 r l)) (v112 (ix2 r l))
        (v145 (ix2 r l) + Ideal.div (v82 (ix2 r l) * (v170 (ix2 r l) + v171 (ix2 r l))) (v169 (ix2 r l)))
      = (V (chan l) : EReal))
    (hL : ∀ l, bin l = b (chan l) → Scalar.select (v117 (ix2 r l)) 0
        (Ideal.log
          (Ideal.div
            (v153 (ix2 r l) * v153 (ix2 r l) *
              (v104 (ix2 r l) * v163 (ix2 r l) +
                  Ideal.ofBits FTy.f32 1073741824#32 * v153 (ix2 r l) * v162 (ix2 r l) +
                v152 (ix2 r l) * v161 (ix2 r l) * v161 (ix2 r l)))
            (v169 (ix2 r l) * v169 (ix2 r l)))) = (L (chan l) : EReal))
    (h195 : ∀ a c, v195 (ix2 a c) = (selR a c : EReal)) (c : Fin 33) :
    k0_pay34 (F := Ideal) v82 v104 v112 v117 v141 v145 v152 v153 v161 v162 v163 v169 v170 v171 v195 (ix2 r c)
      = (((∑ a : Fin 128, (if bin a = b (chan a) then V (chan a) else 0) * selR a c)
          + ∑ a : Fin 128, (if bin a = b (chan a) then L (chan a) else 0) * selR (128 + a) c : ℝ) : EReal) := by
  have hV' : ∀ l, Scalar.select (v117 (ix2 r l)) (v112 (ix2 r l))
        (v145 (ix2 r l) + Ideal.div (v82 (ix2 r l) * (v170 (ix2 r l) + v171 (ix2 r l))) (v169 (ix2 r l)))
        * v141 (ix2 r l) = ((if bin l = b (chan l) then V (chan l) else 0 : ℝ) : EReal) := by
    intro l
    rw [h141]
    by_cases h : bin l = b (chan l)
    · rw [if_pos h, if_pos h, mul_one, hV l h]
    · rw [if_neg h, if_neg h, mul_zero, EReal.coe_zero]
  have hL' : ∀ l, Scalar.select (v117 (ix2 r l)) 0
        (Ideal.log
          (Ideal.div
            (v153 (ix2 r l) * v153 (ix2 r l) *
              (v104 (ix2 r l) * v163 (ix2 r l) +
                  Ideal.ofBits FTy.f32 1073741824#32 * v153 (ix2 r l) * v162 (ix2 r l) +
                v152 (ix2 r l) * v161 (ix2 r l) * v161 (ix2 r l)))
            (v169 (ix2 r l) * v169 (ix2 r l))))
        * v141 (ix2 r l) = ((if bin l = b (chan l) then L (chan l) else 0 : ℝ) : EReal) := by
    intro l
    rw [h141]
    by_cases h : bin l = b (chan l)
    · rw [if_pos h, if_pos h, mul_one, hL l h]
    · rw [if_neg h, if_neg h, mul_zero, EReal.coe_zero]
  pointwise [k0_pay34]
  simp only [select_mul, hV', hL', h195, ← EReal.coe_sub, ← EReal.coe_mul, ← coe_sum, ← EReal.coe_add, sub_self, zero_mul,
    Finset.sum_const_zero, EReal.coe_zero, add_zero]

/-- One row of the block's last sums, from the blocks of the inputs. -/
def resBlk (v0 : FVec Ideal S2048x32 .f32) (v2 : FVec Ideal S32x256 .bf16)
    (v5 : FVec Ideal S1x256 .f32) (v12 : FVec Ideal S256x256 .bf16) (v15 : FVec Ideal S1x256 .f32)
    (v22 : FVec Ideal S256x384 .bf16) (v25 : FVec Ideal S1x384 .f32) (v105 : FVec Ideal S32x128 .bf16)
    (v55 : FVec Ideal S256x512 .bf16) (v195 : FVec Ideal S256x33 .bf16) : FVec Ideal S2048x33 .f32 :=
  let v29 := k0_pay4 (F := Ideal) v0 v2 v5 v12 v15 v22 v25
  let v30 := k0_pay5 (F := Ideal) v0 v2 v5 v12 v15 v22 v25
  let s : BitVec 32 := Scalar.select (Scalar.cmpi .eq 8#32 0#32) 1#32 8#32
  let v49 := k0_pay8 (F := Ideal) s k0_pay6 0#32
  let v80 := k0_pay13 (F := Ideal) v29 s k0_pay6 0#32 v55
  let v81 := k0_pay14 (F := Ideal) v29 v55
  let v82 := k0_pay15 (F := Ideal) v29 v55
  let v104 := k0_pay17 (F := Ideal) v30 v49
  let v119 := k0_pay20 (F := Ideal) v0 v105
  let v121 := k0_pay21 (F := Ideal) v80
  k0_pay34 (F := Ideal) v82 v104 (k0_pay18 (F := Ideal) v0 v105) (k0_pay19 (F := Ideal) v0 v105)
    (k0_pay23 v49 (k0_pay22 (F := Ideal) v0 v80 v105))
    (k0_pay24 v82 (k0_pay16 v80)) (k0_pay25 v49 v104) (k0_pay26 v81 v82) (k0_pay28 v81 v119 v121)
    (k0_pay29 v81 v119 v121) (k0_pay30 v81 v119 v121) (k0_pay31 v49 v81 v82 v104 v119 v121)
    (k0_pay32 v81 v82 v119 v121) (k0_pay33 v49 v81 v104 v119 v121) v195

section row

variable (N : Net) (xr : Fin 32 → ℝ) (v0 : FVec Ideal S2048x32 .f32) (v2 : FVec Ideal S32x256 .bf16)
    (v5 : FVec Ideal S1x256 .f32) (v12 : FVec Ideal S256x256 .bf16) (v15 : FVec Ideal S1x256 .f32)
    (v22 : FVec Ideal S256x384 .bf16) (v25 : FVec Ideal S1x384 .f32) (v105 : FVec Ideal S32x128 .bf16)
    (v55 : FVec Ideal S256x512 .bf16) (v195 : FVec Ideal S256x33 .bf16)
    (h0 : ∀ c, v0 (ix2 r c) = (xr c : EReal)) (h2 : ∀ a c, v2 (ix2 a c) = (spaced N.A0 a c : EReal))
    (h5 : ∀ c, v5 (ix2 0 c) = (N.c0 c : EReal)) (h12 : ∀ a c, v12 (ix2 a c) = (N.A1 a c : EReal))
    (h15 : ∀ c, v15 (ix2 0 c) = (N.c1 c : EReal)) (h22 : ∀ a c, v22 (ix2 a c) = (relay (N.A2 a) c : EReal))
    (h25 : ∀ c, v25 (ix2 0 c) = (relay N.c2 c : EReal)) (h105 : ∀ a c, v105 (ix2 a c) = (spreadR a c : EReal))
    (h55 : ∀ a c, v55 (ix2 a c) = (groupR a c : EReal)) (h195 : ∀ a c, v195 (ix2 a c) = (selR a c : EReal))
    (b : Fin 16 → Fin 8) (hb : ∀ j, InBin (N.wlog xr j) (Net.pt xr j) (b j))

include h0 h2 h5 h12 h15 h22 h25 h105 h55 h195 hb in
/-- The last sums, over the spline's values and the logarithms of its slopes. -/
theorem res_row (c : Fin 33) :
    resBlk v0 v2 v5 v12 v15 v22 v25 v105 v55 v195 (ix2 r c)
      = (((∑ a : Fin 128, (if bin a = b (chan a) then N.val xr (chan a) (b (chan a)) else 0) * selR a c)
          + ∑ a : Fin 128, (if bin a = b (chan a) then N.lsl xr (chan a) (b (chan a)) else 0) * selR (128 + a) c : ℝ)
            : EReal) := by
  have h3 := pay3_row r N xr v0 v2 v5 v12 v15 v22 v25 h0 h2 h5 h12 h15 h22 h25
  have h29 := pay4_row r _ v0 v2 v5 v12 v15 v22 v25 h3
  have h30 := pay5_row r _ v0 v2 v5 v12 v15 v22 v25 h3
  have gw : ∀ l : Fin 128, grp (fun c : Fin 256 => relay (N.raw xr) ⟨c, by omega⟩) ⟨chan l, by have := (chan l).isLt; omega⟩
      = N.wlog xr (chan l) := fun l => funext fun k => relay_w N xr _ k _ (by simp only; omega)
  have gh : ∀ l : Fin 128, grp (fun c : Fin 256 => relay (N.raw xr) ⟨c, by omega⟩) ⟨16 + chan l, by have := (chan l).isLt; omega⟩
      = N.hlog xr (chan l) := fun l => funext fun k => relay_h N xr _ k _ (by simp only; omega)
  have hd : ∀ (j : Fin 16) (k : Fin 7) (l : Fin 128), (l : ℕ) = 8 * j + k →
      relay (N.raw xr) ⟨256 + l, by omega⟩ = N.dlog xr j k :=
    fun j k l hl => relay_d N xr j k _ (by simp only; omega)
  have h49 := pay8_row
  have h81 : ∀ l, _ = (ext (N.wlog xr (chan l)) (bin l) : EReal) :=
    fun l => (pay14_row r _ _ v55 h29 h55 l).trans (by rw [gw])
  have h82 : ∀ l, _ = (ext (N.hlog xr (chan l)) (bin l) : EReal) :=
    fun l => (pay15_row r _ _ v55 h29 h55 l).trans (by rw [gh])
  have h84 : ∀ l, _ = ((1 + edge (N.hlog xr (chan l)) (bin l + 1) : ℝ) : EReal) :=
    fun l => (pay16_row r _ _ v55 h29 h55 l).trans (by rw [gh])
  have h121 : ∀ l, _ = (edge (N.wlog xr (chan l)) (bin l + 1) : EReal) :=
    fun l => (pay21_row r _ _ v55 h29 h55 l).trans (by rw [gw])
  have h104 := pay17_row r (N.dlog xr) _ _ _ h30 hd h49
  have hx : ∀ j : Fin 16, xr ⟨j * 2, by omega⟩ = Net.pt xr j := fun _ => rfl
  have h112 := pay18_row r (Net.pt xr) xr v0 v105 h0 h105 hx
  have h117 := pay19_row r (Net.pt xr) xr v0 v105 h0 h105 hx
  have h119 := pay20_row r (Net.pt xr) xr v0 v105 h0 h105 hx
  have h125 := pay22_row r (Net.pt xr) xr v0 v105 h0 h105 hx (N.wlog xr) b hb _ h121
  have h141 := pay23_row r b _ _ h49 h125
  have h145 := pay24_row r (N.hlog xr) _ _ h82 h84
  have h152 := pay25_row r (N.dlog xr) _ _ h49 h104
  have h153 := pay26_row r (N.wlog xr) (N.hlog xr) _ _ h81 h82
  have h27 := pay27_row r (N.wlog xr) (Net.pt xr) b _ _ _ h81 h119 h121 hb
  have h169 := pay31_row r (N.wlog xr) (N.hlog xr) (N.dlog xr) (Net.pt xr) b _ _ _ _ _ _ h49 h81 h82 h104 h119 h121 hb
  refine pay34_row r b (fun j => N.val xr j (b j)) (fun j => N.lsl xr j (b j)) _ _ _ _ _ _ _ _ _ _ _ _ _ _ _ h141 ?_ ?_ h195 c
  · intro l hl
    rw [h117, h112]
    by_cases ho : Outside (Net.pt xr (chan l))
    · simp only [ho, Scalar.select, Net.val, value]; simp
    · have hden := (den_pos (N.hlog xr (chan l)) (N.dlog xr (chan l)) (hb (chan l))).ne'
      rw [h145, h82, h169 l hl]
      pointwise [k0_pay32, k0_pay33, k0_pay29, k0_pay28, k0_pay30]
      simp only [h153, h152, h27 l hl, ← EReal.coe_one, ← EReal.coe_sub, ← EReal.coe_mul, ← EReal.coe_add]
      rw [hl, div_real _ hden, ← EReal.coe_add]
      simp only [ho, Scalar.select, Net.val, value]; simp [num]
  · intro l hl
    rw [h117]
    by_cases ho : Outside (Net.pt xr (chan l))
    · simp only [ho, Scalar.select, Net.lsl, logSlope]; simp
    · have hden := den_pos (N.hlog xr (chan l)) (N.dlog xr (chan l)) (hb (chan l))
      have hgr := grow_pos (N.hlog xr (chan l)) (N.dlog xr (chan l)) (hb (chan l))
      have hme := mean_pos (N.wlog xr (chan l)) (N.hlog xr (chan l)) (b (chan l))
      rw [h153, h104, h152, h169 l hl]
      pointwise [k0_pay29, k0_pay28, k0_pay30]
      simp only [h27 l hl, word_two, ← EReal.coe_one, ← EReal.coe_sub, ← EReal.coe_mul, ← EReal.coe_add]
      rw [hl, div_real _ (mul_pos hden hden).ne']
      have e : Spline.slope (N.dlog xr (chan l)) (b (chan l) + 1) * (pos (N.wlog xr (chan l)) (Net.pt xr (chan l)) (b (chan l))
            * pos (N.wlog xr (chan l)) (Net.pt xr (chan l)) (b (chan l)))
          + 2 * mean (N.wlog xr (chan l)) (N.hlog xr (chan l)) (b (chan l))
            * (pos (N.wlog xr (chan l)) (Net.pt xr (chan l)) (b (chan l)) * (1 - pos (N.wlog xr (chan l)) (Net.pt xr (chan l)) (b (chan l))))
          + Spline.slope (N.dlog xr (chan l)) (b (chan l)) * (1 - pos (N.wlog xr (chan l)) (Net.pt xr (chan l)) (b (chan l)))
            * (1 - pos (N.wlog xr (chan l)) (Net.pt xr (chan l)) (b (chan l)))
          = grow (N.wlog xr (chan l)) (N.hlog xr (chan l)) (N.dlog xr (chan l)) (Net.pt xr (chan l)) (b (chan l)) := by
        simp only [grow]; ring
      rw [e, log_real (div_pos (mul_pos (mul_pos hme hme) hgr) (mul_pos hden hden)),
        log_join (N.hlog xr (chan l)) (N.dlog xr (chan l)) (hb (chan l))]
      simp only [ho, Scalar.select, Net.lsl, logSlope]; simp

include h0 h2 h5 h12 h15 h22 h25 h105 h55 h195 hb in
/-- Entries of even number of the row: the spline's values. -/
theorem out_even (j : Fin 16) (c : Fin 32) (hc : (c : ℕ) = j * 2) :
    k0_pay1 (F := Ideal) v0 (resBlk v0 v2 v5 v12 v15 v22 v25 v105 v55 v195) k0_pay35 (ix2 r c) = (N.val xr j (b j) : EReal) := by
  pointwise [k0_pay1, k0_pay35]
  have hp : ¬(c : ℕ) % 2 = 1 := by omega
  rw [parity_word, res_row r N xr v0 v2 v5 v12 v15 v22 v25 v105 v55 v195 h0 h2 h5 h12 h15 h22 h25 h105 h55 h195 b hb]
  rw [sum_sel_even b (fun j => N.val xr j (b j)) (fun j => N.lsl xr j (b j)) j _ (by exact hc)]
  simp [hp, Scalar.select]

include h0 h2 h5 h12 h15 h22 h25 h105 h55 h195 hb in
/-- Entries of odd number of the row: unchanged. -/
theorem out_odd (c : Fin 32) (hc : (c : ℕ) % 2 = 1) :
    k0_pay1 (F := Ideal) v0 (resBlk v0 v2 v5 v12 v15 v22 v25 v105 v55 v195) k0_pay35 (ix2 r c) = (xr c : EReal) := by
  pointwise [k0_pay1, k0_pay35]
  rw [parity_word, res_row r N xr v0 v2 v5 v12 v15 v22 v25 v105 v55 v195 h0 h2 h5 h12 h15 h22 h25 h105 h55 h195 b hb]
  rw [sum_sel_odd _ _ _ (by exact hc), h0]
  simp [hc, Scalar.select]

include h0 h2 h5 h12 h15 h22 h25 h105 h55 h195 hb in
/-- The row's sum of the logarithms of the slopes. -/
theorem out_last :
    k0_pay2 (F := Ideal) (resBlk v0 v2 v5 v12 v15 v22 v25 v105 v55 v195) (ix2 r 0) = ((∑ j, N.lsl xr j (b j) : ℝ) : EReal) := by
  pointwise [k0_pay2]
  rw [res_row r N xr v0 v2 v5 v12 v15 v22 v25 v105 v55 v195 h0 h2 h5 h12 h15 h22 h25 h105 h55 h195 b hb]
  exact congrArg _ (sum_sel_last b (fun j => N.val xr j (b j)) (fun j => N.lsl xr j (b j)))

end row

end Cert.KernelIdeal.Block

end
-- ==== Proof.Result.lean ====
/- The two results as functions of real inputs: the row's new entries and the row's sum of logarithms. -/
module

public import proofs.«01_k».proof.Proof.Mlp

@[expose] public section

noncomputable section

namespace Cert.Spline

variable (N : Net) (xr : Fin 32 → ℝ)

/-- The bin of channel `j`'s point. -/
def Net.bin (j : Fin 16) : Fin 8 := Classical.choose (exists_bin (N.wlog xr j) (Net.pt xr j))

/-- The bin holds the channel's point. -/
theorem Net.bin_spec (j : Fin 16) : InBin (N.wlog xr j) (Net.pt xr j) (N.bin xr j) :=
  Classical.choose_spec (exists_bin (N.wlog xr j) (Net.pt xr j))

/-- Entry `c` of the first result's row: the spline's value at an entry of even number, the entry itself at one of odd number. -/
def Net.outR (c : Fin 32) : ℝ :=
  if (c : ℕ) % 2 = 1 then xr c else N.val xr ⟨c / 2, by omega⟩ (N.bin xr ⟨c / 2, by omega⟩)

/-- The row's entry of the second result. -/
def Net.ldR : ℝ := ∑ j, N.lsl xr j (N.bin xr j)

end Cert.Spline

end
-- ==== Proof.KernelFinal.lean ====
/- What the kernel's two result arrays hold after the launch, from arguments whose entries are real numbers. -/
module

public import proofs.«01_k».proof.Proof.Operands
public import proofs.«01_k».proof.Proof.BlockSpline
public import proofs.«01_k».proof.Proof.Result

@[expose] public section

set_option maxRecDepth 16384

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.Spline Cert.KernelIdeal.Operands Cert.KernelIdeal.Block

variable (m : (ℓ : Loc nD τ sig) → Buf (Elt Ideal) ℓ)

/-- The arguments on device `c` are the rows `X` and the net `N`. -/
structure Holds (c : Dev nD) (X : Fin 65536 → Fin 32 → ℝ) (N : Net) : Prop where
  x : ∀ r k, (show FVec Ideal S65536x32 .f32 from m ((c : Thread nD τ).loc main_arg0)) (ix2 r k) = (X r k : EReal)
  w0 : ∀ a k, (show FVec Ideal S16x256 .f32 from m ((c : Thread nD τ).loc main_arg1)) (ix2 a k) = (N.A0 a k : EReal)
  b0 : ∀ k, (show FVec Ideal S256 .f32 from m ((c : Thread nD τ).loc main_arg2)) (ix1 k) = (N.c0 k : EReal)
  w1 : ∀ a k, (show FVec Ideal S256x256 .f32 from m ((c : Thread nD τ).loc main_arg3)) (ix2 a k) = (N.A1 a k : EReal)
  b1 : ∀ k, (show FVec Ideal S256 .f32 from m ((c : Thread nD τ).loc main_arg4)) (ix1 k) = (N.c1 k : EReal)
  w2 : ∀ a k, (show FVec Ideal S256x368 .f32 from m ((c : Thread nD τ).loc main_arg5)) (ix2 a k) = (N.A2 a k : EReal)
  b2 : ∀ k, (show FVec Ideal S368 .f32 from m ((c : Thread nD τ).loc main_arg6)) (ix1 k) = (N.c2 k : EReal)

/-- The first result. -/
def out (X : Fin 65536 → Fin 32 → ℝ) (N : Net) : FVec Ideal S65536x32 .f32 := fun i => (N.outR (X (i 0)) (i 1) : EReal)
/-- The second result. -/
def ld (X : Fin 65536 → Fin 32 → ℝ) (N : Net) : FVec Ideal S65536x1 .f32 := fun i => (N.ldR (X (i 0)) : EReal)

/-- The product of the last selection table, over the blocks. -/
theorem pay45_eq (x0 : FVec Ideal S2048x32 .f32) (x1 : FVec Ideal S32x256 .bf16) (x2 : FVec Ideal S1x256 .f32)
    (x3 : FVec Ideal S256x256 .bf16) (x4 : FVec Ideal S1x256 .f32) (x5 : FVec Ideal S256x384 .bf16) (x6 : FVec Ideal S1x384 .f32)
    (x7 : FVec Ideal S32x128 .bf16) (x8 : FVec Ideal S256x512 .bf16) (x9 : FVec Ideal S256x33 .bf16) :
    k0_pay45 (F := Ideal) x0 x1 x2 x3 x4 x5 x6 x7 x8 x9 = resBlk x0 x1 x2 x3 x4 x5 x6 x7 x8 x9 := by
  simp (disch := decide) only [k0_pay45, k0_pay44, k0_pay43, k0_pay42, k0_pay41, k0_pay40, k0_pay39, k0_pay38, k0_pay37, k0_pay36,
    View.ld_unit_lit', resBlk]

/-- What a point writes into its block of the first result. -/
theorem out10_eq (x0 : FVec Ideal S2048x32 .f32) (x1 : FVec Ideal S32x256 .bf16) (x2 : FVec Ideal S1x256 .f32)
    (x3 : FVec Ideal S256x256 .bf16) (x4 : FVec Ideal S1x256 .f32) (x5 : FVec Ideal S256x384 .bf16) (x6 : FVec Ideal S1x384 .f32)
    (x7 : FVec Ideal S32x128 .bf16) (x8 : FVec Ideal S256x512 .bf16) (x9 : FVec Ideal S256x33 .bf16) :
    out0_10 (F := Ideal) x0 x1 x2 x3 x4 x5 x6 x7 x8 x9 = k0_pay1 (F := Ideal) x0 (resBlk x0 x1 x2 x3 x4 x5 x6 x7 x8 x9) k0_pay35 := by
  frame_out
  rw [pay45_eq]

/-- What a point writes into its block of the second result. -/
theorem out11_eq (x0 : FVec Ideal S2048x32 .f32) (x1 : FVec Ideal S32x256 .bf16) (x2 : FVec Ideal S1x256 .f32)
    (x3 : FVec Ideal S256x256 .bf16) (x4 : FVec Ideal S1x256 .f32) (x5 : FVec Ideal S256x384 .bf16) (x6 : FVec Ideal S1x384 .f32)
    (x7 : FVec Ideal S32x128 .bf16) (x8 : FVec Ideal S256x512 .bf16) (x9 : FVec Ideal S256x33 .bf16) :
    out0_11 (F := Ideal) x0 x1 x2 x3 x4 x5 x6 x7 x8 x9 = k0_pay2 (F := Ideal) (resBlk x0 x1 x2 x3 x4 x5 x6 x7 x8 x9) := by
  frame_out
  rw [pay45_eq]

/-- The array's row of row `r` of the point's block. -/
abbrev row (t : Fin cfg0.N) (r : Fin 2048) : Fin 65536 := ⟨t.val * 2048 + r, by have := idx_lt t; omega⟩

section point
variable {m} {c : Dev nD} {X : Fin 65536 → Fin 32 → ℝ} {N : Net} (H : Holds m c X N) (t : Fin cfg0.N) (r : Fin 2048)
include H

/-- The first result's entry `k` of row `r` of the point's block. -/
theorem pt10 (k : Fin 32) : k0_pay1 (F := Ideal) (iblk m c 0 t) (resBlk (iblk m c 0 t) (iblk m c 1 t) (iblk m c 2 t) (iblk m c 3 t)
      (iblk m c 4 t) (iblk m c 5 t) (iblk m c 6 t) (iblk m c 7 t) (iblk m c 8 t) (iblk m c 9 t)) k0_pay35 (ix2 r k)
      = (N.outR (X (row t r)) k : EReal) := by
  by_cases hk : (k : ℕ) % 2 = 1
  · refine (out_odd r N (X (row t r)) _ _ _ _ _ _ _ _ _ _ (fun k => (blk0 m c t r k).trans (H.x _ _))
      (fun a k => (congrFun (blk1 m c t) _).trans (ent1 m N c H.w0 a k))
      (fun k => (congrFun (blk2 m c t) _).trans (ent2 m N c H.b0 k))
      (fun a k => (congrFun (blk3 m c t) _).trans (ent3 m N c H.w1 a k))
      (fun k => (congrFun (blk4 m c t) _).trans (ent4 m N c H.b1 k))
      (fun a k => (congrFun (blk5 m c t) _).trans (ent5 m N c H.w2 a k))
      (fun k => (congrFun (blk6 m c t) _).trans (ent6 m N c H.b2 k))
      (fun a k => (congrFun (blk7 m c t) _).trans (ent7 m c a k))
      (fun a k => (congrFun (blk8 m c t) _).trans (ent8 m c a k))
      (fun a k => (congrFun (blk9 m c t) _).trans (ent9 m c a k))
      (N.bin (X (row t r))) (N.bin_spec (X (row t r))) k hk).trans ?_
    rw [Net.outR, if_pos hk]
  · refine (out_even r N (X (row t r)) _ _ _ _ _ _ _ _ _ _ (fun k => (blk0 m c t r k).trans (H.x _ _))
      (fun a k => (congrFun (blk1 m c t) _).trans (ent1 m N c H.w0 a k))
      (fun k => (congrFun (blk2 m c t) _).trans (ent2 m N c H.b0 k))
      (fun a k => (congrFun (blk3 m c t) _).trans (ent3 m N c H.w1 a k))
      (fun k => (congrFun (blk4 m c t) _).trans (ent4 m N c H.b1 k))
      (fun a k => (congrFun (blk5 m c t) _).trans (ent5 m N c H.w2 a k))
      (fun k => (congrFun (blk6 m c t) _).trans (ent6 m N c H.b2 k))
      (fun a k => (congrFun (blk7 m c t) _).trans (ent7 m c a k))
      (fun a k => (congrFun (blk8 m c t) _).trans (ent8 m c a k))
      (fun a k => (congrFun (blk9 m c t) _).trans (ent9 m c a k))
      (N.bin (X (row t r))) (N.bin_spec (X (row t r))) ⟨k / 2, by omega⟩ k (by show (k : ℕ) = k / 2 * 2; omega)).trans ?_
    rw [Net.outR, if_neg hk]

/-- The second result's entry of row `r` of the point's block. -/
theorem pt11 : k0_pay2 (F := Ideal) (resBlk (iblk m c 0 t) (iblk m c 1 t) (iblk m c 2 t) (iblk m c 3 t)
      (iblk m c 4 t) (iblk m c 5 t) (iblk m c 6 t) (iblk m c 7 t) (iblk m c 8 t) (iblk m c 9 t)) (ix2 r 0)
      = (N.ldR (X (row t r)) : EReal) :=
  out_last r N (X (row t r)) _ _ _ _ _ _ _ _ _ _ (fun k => (blk0 m c t r k).trans (H.x _ _))
      (fun a k => (congrFun (blk1 m c t) _).trans (ent1 m N c H.w0 a k))
      (fun k => (congrFun (blk2 m c t) _).trans (ent2 m N c H.b0 k))
      (fun a k => (congrFun (blk3 m c t) _).trans (ent3 m N c H.w1 a k))
      (fun k => (congrFun (blk4 m c t) _).trans (ent4 m N c H.b1 k))
      (fun a k => (congrFun (blk5 m c t) _).trans (ent5 m N c H.w2 a k))
      (fun k => (congrFun (blk6 m c t) _).trans (ent6 m N c H.b2 k))
      (fun a k => (congrFun (blk7 m c t) _).trans (ent7 m c a k))
      (fun a k => (congrFun (blk8 m c t) _).trans (ent8 m c a k))
      (fun a k => (congrFun (blk9 m c t) _).trans (ent9 m c a k))
      (N.bin (X (row t r))) (N.bin_spec (X (row t r)))

/-- The first result's array after the launch. -/
theorem final10 : (dats m 0 c).arrAt 10 (cfgs 0).N = out X N := by
  refine (dats m 0 c).arrAt_eq_of_covers 10 _ (by decide +kernel) fun t _ y => ?_
  blk_simp [idx t]
  rw [after0_10]
  refine (congrFun (out10_eq _ _ _ _ _ _ _ _ _ _) y).trans ?_
  idx_vars y
  refine (pt10 H t y0 y1).trans ?_
  have e : (((cfg0.win 10).blk t).view.emb (ix2 y0 y1 : S2048x32.Idx) : S65536x32.Idx) = ix2 (row t y0) y1 := by
    blk_ext [idx t]
  exact (congrArg (out X N) e).symm

/-- The second result's array after the launch. -/
theorem final11 : (dats m 0 c).arrAt 11 (cfgs 0).N = ld X N := by
  refine (dats m 0 c).arrAt_eq_of_covers 11 _ (by decide +kernel) fun t _ y => ?_
  blk_simp [idx t]
  rw [after0_11]
  refine (congrFun (out11_eq _ _ _ _ _ _ _ _ _ _) y).trans ?_
  idx_vars y
  obtain rfl : y1 = 0 := Subsingleton.elim _ _
  refine (pt11 H t y0).trans ?_
  have e : (((cfg0.win 11).blk t).view.emb (ix2 y0 0 : S2048x1.Idx) : S65536x1.Idx) = ix2 (row t y0) 0 := by
    blk_ext [idx t]
  exact (congrArg (ld X N) e).symm

end point

end Cert.KernelIdeal.Final

end
-- ==== Proof.RefOps.lean ====
/- Operations of the reference over whole arrays, read at an index: running sums, gathers along the last axis, and the counted bin. -/
module

public import proofs.«01_k».proof.Proof.Gen.ReferenceIdeal
public import proofs.«01_k».proof.Proof.Result
public import Idealize.ShloMosaic.Lib.Pointwise
public import Idealize.ShloMosaic.Lib.ReduceAll
public import Idealize.ShloMosaic.Lib.ValueIdx

@[expose] public section

set_option maxRecDepth 16384

noncomputable section

open Idealize.ShloMosaic Idealize.ShloMosaic.TcCoe Idealize.SL.Sem

namespace Cert.ReferenceIdeal.Ops

open Cert.ReferenceIdeal Cert.ReferenceIdeal.Gen Cert.Spline

/-- A left fold of additions is the start and the sum. -/
theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- The indices of a window of eight along the last axis. -/
def winEquiv : (⟨3, ![1, 1, 8]⟩ : Shape).Idx ≃ Fin 8 where
  toFun p := p 2
  invFun n := ix3 0 0 n
  left_inv p := by
    funext a
    match a with
    | ⟨0, _⟩ => exact Subsingleton.elim (α := Fin 1) _ _
    | ⟨1, _⟩ => exact Subsingleton.elim (α := Fin 1) _ _
    | ⟨2, _⟩ => rfl
  right_inv n := rfl

/-- The running sum along the last axis. -/
theorem running (x : FVec Ideal S65536x16x8 .f32) (z : FVec Ideal S_ .f32) (hz : ∀ i, z i = (0 : EReal))
    (r : Fin 65536) (j : Fin 16) (w : Fin 8 → ℝ) (hx : ∀ k, x (ix3 r j k) = (w k : EReal)) (k : Fin 8) :
    (Host.reduceWindowAdd ![1, 1, 8] ![1, 1, 1] ![0, 0, 7] ![0, 0, 0] x z
      reduceWindows_S65536x16x8_S65536x16x8_w1s1p0_0_w1s1p0_0_w8s1p7_0 h_S_ : FVec Ideal S65536x16x8 .f32) (ix3 r j k)
      = ((∑ i : Fin 8, if i ≤ k then w i else 0 : ℝ) : EReal) := by
  unfold Host.reduceWindowAdd
  rw [Ideal.hostReduceWindowAdd_def]
  unfold Ideal.hostReduceWindowAdd Host.reduceWindow
  dsimp only
  rw [hz, foldl_add, zero_add, ← Fin.sum_univ_def,
    ← Equiv.sum_comp (winEquiv.symm.trans (Shape.rowMajor (⟨3, ![1, 1, 8]⟩ : Shape)))]
  have step : ∀ n : Fin 8, (if hin : ∀ a : Fin 3, (![0, 0, 7] : Fin 3 → ℕ) a
        ≤ ((ix3 r j k : S65536x16x8.Idx) a).val * (![1, 1, 1] : Fin 3 → ℕ) a + ((winEquiv.symm n) a).val
      ∧ ((ix3 r j k : S65536x16x8.Idx) a).val * (![1, 1, 1] : Fin 3 → ℕ) a + ((winEquiv.symm n) a).val - (![0, 0, 7] : Fin 3 → ℕ) a
        < S65536x16x8.size a
    then x (fun a => ⟨_, (hin a).2⟩) else (0 : EReal)) = ((if h : 7 ≤ (k : ℕ) + n then w ⟨k + n - 7, by omega⟩ else 0 : ℝ) : EReal) := by
    intro n
    have b0 := r.isLt
    have b1 := j.isLt
    by_cases h : 7 ≤ (k : ℕ) + n
    · rw [dif_pos h, dif_pos]
      · refine (congrArg x ?_).trans (hx ⟨k + n - 7, by omega⟩)
        funext a
        match a with
        | ⟨0, _⟩ => exact Fin.ext (show (r : ℕ) * 1 + 0 - 0 = r by omega)
        | ⟨1, _⟩ => exact Fin.ext (show (j : ℕ) * 1 + 0 - 0 = j by omega)
        | ⟨2, _⟩ => exact Fin.ext (show (k : ℕ) * 1 + n - 7 = k + n - 7 by omega)
      · intro a
        match a with
        | ⟨0, _⟩ => exact (show 0 ≤ (r : ℕ) * 1 + 0 ∧ (r : ℕ) * 1 + 0 - 0 < 65536 by omega)
        | ⟨1, _⟩ => exact (show 0 ≤ (j : ℕ) * 1 + 0 ∧ (j : ℕ) * 1 + 0 - 0 < 16 by omega)
        | ⟨2, _⟩ => exact (show 7 ≤ (k : ℕ) * 1 + n ∧ (k : ℕ) * 1 + n - 7 < 8 by omega)
    · rw [dif_neg h, dif_neg, EReal.coe_zero]
      intro hin
      exact h (by have := (show 7 ≤ (k : ℕ) * 1 + n from (hin 2).1); omega)
  refine (Finset.sum_congr rfl fun n _ => ?_).trans ((Finset.sum_congr rfl fun n _ => step n).trans ?_)
  · simp only [Equiv.trans_apply, Equiv.symm_apply_apply]
    rfl
  rw [← coe_sum]
  refine congrArg _ ?_
  clear step
  fin_cases k <;> simp [Fin.sum_univ_eight, Fin.le_def]

/-- The edges of the bins. -/
theorem edges (x : FVec Ideal S65536x16x8 .f32) (r : Fin 65536) (j : Fin 16) (w : Fin 8 → ℝ)
    (hx : ∀ k, x (ix3 r j k) = (ext w k : EReal)) (n : Fin 9) :
    (addf (pad S65536x16x9 ![0, 0, 1] ![0, 0, 0] ![0, 0, 0] (Host.reduceWindowAdd ![1, 1, 8] ![1, 1, 1] ![0, 0, 7] ![0, 0, 0] x
        (broadcastInDim S_ ![] bcast_S_S_ (constant S_ .f32 0x00000000#32))
        reduceWindows_S65536x16x8_S65536x16x8_w1s1p0_0_w1s1p0_0_w8s1p7_0 h_S_) (sitofp .f32 (constantI S_ 32 0#32))
        pads_S65536x16x8_S65536x16x9_000_000_100 h_S_)
      (broadcastInDim S65536x16x9 ![] bcast_S_S65536x16x9 (constant S_ .f32 0xBF800000#32)) : FVec Ideal S65536x16x9 .f32) (ix3 r j n)
      = (edge w n : EReal) := by
  pointwise
  have e0 : (FloatOps.sitofp (F := Ideal) FTy.f32 0#32) = ((0 : ℝ) : EReal) := by
    show ((((0#32 : BitVec 32).toInt : ℤ) : ℝ) : EReal) = _
    simp
  rw [e0, word_neg_one]
  by_cases h : 1 ≤ (n : ℕ) ∧ (n : ℕ) - 1 < 8
  · rw [dif_pos h, running x _ (fun i => by pointwise) r j (ext w) hx, ← EReal.coe_add, add_comm]
    refine congrArg (fun t : ℝ => (t : EReal)) ?_
    unfold edge
    refine congrArg (fun t : ℝ => -1 + t) (Finset.sum_congr rfl fun i _ => if_congr ?_ rfl rfl)
    rw [Fin.le_def]
    show (i : ℕ) ≤ (n : ℕ) - 1 ↔ (i : ℕ) < n
    have := h.1
    omega
  · have h0 : (n : ℕ) = 0 := by
      have := n.isLt
      omega
    rw [dif_neg h, ← EReal.coe_add, h0]
    refine congrArg (fun t : ℝ => (t : EReal)) ?_
    simp [edge]

/-- The gather along the last axis, batched over the other two: its dimension numbers. -/
abbrev lastDims (C : ℕ) (wf : GatherDims.WF ⟨3, ![65536, 16, C]⟩ S65536x16x1x1 S65536x16x1 [] [2] [0, 1] [2] [0, 1] 3 ![1, 1, 1]) :
    GatherDims ⟨3, ![65536, 16, C]⟩ S65536x16x1x1 S65536x16x1 where
  offsetDims := []
  collapsedSliceDims := [2]
  operandBatchingDims := [0, 1]
  startIndicesBatchingDims := [0, 1]
  startIndexMap := [2]
  indexVectorDim := 3
  sliceSizes := ![1, 1, 1]
  wf := wf

/-- That gather at an index that is in range. -/
theorem gather_last (C : ℕ) (wf : GatherDims.WF ⟨3, ![65536, 16, C]⟩ S65536x16x1x1 S65536x16x1 [] [2] [0, 1] [2] [0, 1] 3 ![1, 1, 1])
    (x : (⟨3, ![65536, 16, C]⟩ : Shape).Idx → EReal) (idx : IVec S65536x16x1x1 32) (r : Fin 65536) (j : Fin 16) (b : Fin C)
    (h : (idx (ix4 r j 0 0)).toInt.toNat = b) : Host.gather (lastDims C wf) x idx (ix3 r j 0) = x (ix3 r j b) := by
  unfold Host.gather
  refine congrArg x ?_
  funext a
  refine Fin.ext ?_
  show (lastDims C wf).start (ix3 r j 0) idx a + (lastDims C wf).batchCoord (ix3 r j 0) a
      + (lastDims C wf).offCoord (ix3 r j 0) a = _
  match a with
  | ⟨0, _⟩ =>
    rw [GatherDims.start_batching _ _ _ _ (by show (0 : Fin 3) ∈ [(0 : Fin 3), 1]; decide),
      GatherDims.offCoord_eq_zero _ _ _ (fun h => ((GatherDims.mem_sKept _ _).mp h).2 (by show (0 : Fin 3) ∈ [(0 : Fin 3), 1]; decide))]
    unfold GatherDims.batchCoord
    rw [dif_pos (by show (0 : Fin 3) ∈ [(0 : Fin 3), 1]; decide)]
    show 0 + _ + 0 = (r : ℕ)
    rw [Nat.zero_add, Nat.add_zero]
    rfl
  | ⟨1, _⟩ =>
    rw [GatherDims.start_batching _ _ _ _ (by show (1 : Fin 3) ∈ [(0 : Fin 3), 1]; decide),
      GatherDims.offCoord_eq_zero _ _ _ (fun h => ((GatherDims.mem_sKept _ _).mp h).2 (by show (1 : Fin 3) ∈ [(0 : Fin 3), 1]; decide))]
    unfold GatherDims.batchCoord
    rw [dif_pos (by show (1 : Fin 3) ∈ [(0 : Fin 3), 1]; decide)]
    show 0 + _ + 0 = (j : ℕ)
    rw [Nat.zero_add, Nat.add_zero]
    rfl
  | ⟨2, _⟩ =>
    rw [GatherDims.batchCoord_eq_zero _ _ _ (by show (2 : Fin 3) ∉ [(0 : Fin 3), 1]; decide),
      GatherDims.offCoord_eq_zero _ _ _ (fun h => ((GatherDims.mem_sKept _ _).mp h).1 (List.mem_singleton.mpr rfl))]
    unfold GatherDims.start
    rw [dif_pos (show (⟨2, by decide⟩ : Fin 3) ∈ [(2 : Fin 3)] from List.mem_singleton.mpr rfl)]
    have hsi : (lastDims C wf).siIdx (ix3 r j 0) ⟨List.idxOf (⟨2, by decide⟩ : Fin 3) (lastDims C wf).startIndexMap,
        List.idxOf_lt_length_iff.2 (List.mem_singleton.mpr rfl)⟩ = ix4 r j 0 0 := by
      funext c; refine Fin.ext ?_
      match c with
      | ⟨0, _⟩ => rfl
      | ⟨1, _⟩ => rfl
      | ⟨2, _⟩ => rfl
      | ⟨3, _⟩ => rfl
    rw [hsi]
    show min (idx (ix4 r j 0 0)).toInt.toNat (C - 1) + 0 + 0 = (b : ℕ)
    rw [h]
    have := b.isLt
    omega

/-- The index of a bin, after the wrapping of negative ones. -/
theorem wrapped (v : IVec S65536x16 32) (n : BitVec 32) (r : Fin 65536) (j : Fin 16) (b : Fin 8)
    (hv : v (ix2 r j) = BitVec.ofNat 32 b) :
    shapeCast S65536x16x1x1 (select (cmpi .slt (broadcastInDim S65536x16x1 ![0, 1] bcast_S65536x16_S65536x16x1_0_1 v)
        (broadcastInDim S65536x16x1 ![] bcast_S_S65536x16x1 (constantI S_ 32 0#32)))
      (addi (broadcastInDim S65536x16x1 ![0, 1] bcast_S65536x16_S65536x16x1_0_1 v)
        (broadcastInDim S65536x16x1 ![] bcast_S_S65536x16x1 (constantI S_ 32 n)))
      (broadcastInDim S65536x16x1 ![0, 1] bcast_S65536x16_S65536x16x1_0_1 v)) shapeCasts_S65536x16x1_S65536x16x1x1 (ix4 r j 0 0)
      = BitVec.ofNat 32 b := by
  pointwise
  rw [hv]
  have : IntOp.cmpi .slt (BitVec.ofNat 32 b) 0#32 = 0#1 := by
    clear hv
    revert b
    decide
  rw [this]
  rfl

/-- The test that an index lies between zero and a bound holds of a bin. -/
theorem ranged (hi : BitVec 32) (hh : ∀ b : Fin 8, IntOp.cmpi .sle (BitVec.ofNat 32 b) hi = 1#1) (b : Fin 8) :
    Finset.fold IntOp.andi 1#1 (fun _ : Fin 1 => IntOp.andi (IntOp.cmpi .sge (BitVec.ofNat 32 b) 0#32)
      (IntOp.cmpi .sle (BitVec.ofNat 32 b) hi)) Finset.univ = 1#1 := by
  rw [hh]
  revert b
  decide

/-- The array of eight read at the bins. -/
theorem take8 (d : FVec Ideal S65536x16x8 .f32) (idx : IVec S65536x16x1x1 32) (r : Fin 65536) (j : Fin 16) (b : Fin 8)
    (h : idx (ix4 r j 0 0) = BitVec.ofNat 32 b) :
    (shapeCast S65536x16 (select (Host.reduce IntOp.andi
        (andi (cmpi .sge idx (broadcastInDim S65536x16x1x1 ![] bcast_S_S65536x16x1x1 (constantI S_ 32 0#32)))
          (cmpi .sle idx (broadcastInDim S65536x16x1x1 ![0, 1, 2, 3] bcast_S1x1x1x1_S65536x16x1x1_0_1_2_3
            (broadcastInDim S1x1x1x1 ![3] bcast_S1_S1x1x1x1_3 (constantI S1 32 7#32))))) (constantI S_ 1 1#1)
        reducesTo_S65536x16x1x1_S65536x16x1_d3 h_S_)
      (Host.gather gather_S65536x16x8_S65536x16x1x1_S65536x16x1_n_2_01_01_2_3_111 d idx)
      (broadcastInDim S65536x16x1 ![] bcast_S_S65536x16x1 (constant S_ .f32 0x7FC00000#32))) shapeCasts_S65536x16x1_S65536x16 :
        FVec Ideal S65536x16 .f32) (ix2 r j) = d (ix3 r j b) := by
  pointwise
  have h0 : ∀ x : Fin 1, idx (ix4 r j 0 x) = BitVec.ofNat 32 b := fun x => by rw [Subsingleton.elim x 0, h]
  simp only [h0]
  rw [ranged 7#32 (by decide) b]
  refine Eq.trans (b := Host.gather gather_S65536x16x8_S65536x16x1x1_S65536x16x1_n_2_01_01_2_3_111 d idx (ix3 r j 0)) rfl
    (gather_last 8 _ d idx r j b ?_)
  rw [h]
  clear h h0
  revert b
  decide

/-- The array of nine read at the bins. -/
theorem take9 (d : FVec Ideal S65536x16x9 .f32) (idx : IVec S65536x16x1x1 32) (r : Fin 65536) (j : Fin 16) (b : Fin 8)
    (h : idx (ix4 r j 0 0) = BitVec.ofNat 32 b) :
    (shapeCast S65536x16 (select (Host.reduce IntOp.andi
        (andi (cmpi .sge idx (broadcastInDim S65536x16x1x1 ![] bcast_S_S65536x16x1x1 (constantI S_ 32 0#32)))
          (cmpi .sle idx (broadcastInDim S65536x16x1x1 ![0, 1, 2, 3] bcast_S1x1x1x1_S65536x16x1x1_0_1_2_3
            (broadcastInDim S1x1x1x1 ![3] bcast_S1_S1x1x1x1_3 (constantI S1 32 8#32))))) (constantI S_ 1 1#1)
        reducesTo_S65536x16x1x1_S65536x16x1_d3 h_S_)
      (Host.gather gather_S65536x16x9_S65536x16x1x1_S65536x16x1_n_2_01_01_2_3_111 d idx)
      (broadcastInDim S65536x16x1 ![] bcast_S_S65536x16x1 (constant S_ .f32 0x7FC00000#32))) shapeCasts_S65536x16x1_S65536x16 :
        FVec Ideal S65536x16 .f32) (ix2 r j) = d (ix3 r j b.castSucc) := by
  pointwise
  have h0 : ∀ x : Fin 1, idx (ix4 r j 0 x) = BitVec.ofNat 32 b := fun x => by rw [Subsingleton.elim x 0, h]
  simp only [h0]
  rw [ranged 8#32 (by decide) b]
  refine Eq.trans (b := Host.gather gather_S65536x16x9_S65536x16x1x1_S65536x16x1_n_2_01_01_2_3_111 d idx (ix3 r j 0)) rfl
    (gather_last 9 _ d idx r j b.castSucc ?_)
  rw [h]
  clear h h0
  revert b
  decide

/-- The bin: the edges at most the point, counted, less one. -/
theorem counted (e : FVec Ideal S65536x16x9 .f32) (y : FVec Ideal S65536x16 .f32) (r : Fin 65536) (j : Fin 16)
    (w : Fin 8 → ℝ) (x : ℝ) (b : Fin 8) (he : ∀ n, e (ix3 r j n) = (edge w n : EReal)) (hy : y (ix2 r j) = (x : EReal))
    (hb : ∀ n : Fin 9, edge w n ≤ x ↔ (n : ℕ) ≤ b) :
    minsi (broadcastInDim S65536x16 ![] bcast_S_S65536x16 (id (constantI S_ 32 7#32)))
      (maxsi (broadcastInDim S65536x16 ![] bcast_S_S65536x16 (id (constantI S_ 32 0#32)))
        (subi (Host.reduce IntOp.addi (extui 32 (cmpf .ole e (broadcastInDim S65536x16x9 ![0, 1, 2] bcast_S65536x16x1_S65536x16x9_0_1_2
          (broadcastInDim S65536x16x1 ![0, 1] bcast_S65536x16_S65536x16x1_0_1 y))) natLt_1_32) (constantI S_ 32 0#32)
          reducesTo_S65536x16x9_S65536x16_d2 h_S_) (broadcastInDim S65536x16 ![] bcast_S_S65536x16 (constantI S_ 32 1#32)))) (ix2 r j)
      = BitVec.ofNat 32 b := by
  pointwise
  simp only [he, hy, EReal.coe_le_coe_iff, hb]
  clear hb
  revert b
  decide

end Cert.ReferenceIdeal.Ops

end
-- ==== Proof.RefNet.lean ====
/- The reference's network, extents, slopes and masks, read at an index. -/
module

public import proofs.«01_k».proof.Proof.RefOps
public import proofs.«01_k».proof.Proof.Lanes

@[expose] public section

set_option maxRecDepth 16384

noncomputable section

open Idealize.ShloMosaic Idealize.ShloMosaic.TcCoe Idealize.SL.Sem

namespace Cert.ReferenceIdeal.Ops

open Cert.ReferenceIdeal Cert.ReferenceIdeal.Gen Cert.Spline

/-- The network's last layer, split by channel. -/
theorem layers (N : Net) (xr : Fin 32 → ℝ) (r : Fin 65536) (v1 : FVec Ideal S65536x16 .f32) (a1 : FVec Ideal S16x256 .f32)
    (a2 : FVec Ideal S256 .f32) (a3 : FVec Ideal S256x256 .f32) (a4 : FVec Ideal S256 .f32) (a5 : FVec Ideal S256x368 .f32)
    (a6 : FVec Ideal S368 .f32) (h1 : ∀ i : Fin 16, v1 (ix2 r i) = (xr ⟨1 + i * 2, by omega⟩ : EReal))
    (ha1 : ∀ i k, a1 (ix2 i k) = (N.A0 i k : EReal)) (ha2 : ∀ k, a2 (ix1 k) = (N.c0 k : EReal))
    (ha3 : ∀ i k, a3 (ix2 i k) = (N.A1 i k : EReal)) (ha4 : ∀ k, a4 (ix1 k) = (N.c1 k : EReal))
    (ha5 : ∀ i k, a5 (ix2 i k) = (N.A2 i k : EReal)) (ha6 : ∀ k, a6 (ix1 k) = (N.c2 k : EReal)) (j : Fin 16) (k : Fin 23) :
    (shapeCast S65536x16x23 (addf (Host.dotGeneral dot_S65536x256_S256x368_S65536x368_1_0_0_1_n_n none (maximumf (addf (Host.dotGeneral
        dot_S65536x256_S256x256_S65536x256_1_0_0_1_n_n none (maximumf (addf (Host.dotGeneral
        dot_S65536x16_S16x256_S65536x256_1_0_0_1_n_n none v1 a1) (broadcastInDim S65536x256 ![0, 1] bcast_S1x256_S65536x256_0_1
        (broadcastInDim S1x256 ![1] bcast_S256_S1x256_1 a2))) (broadcastInDim S65536x256 ![] bcast_S_S65536x256
        (constant S_ .f32 0x00000000#32))) a3) (broadcastInDim S65536x256 ![0, 1] bcast_S1x256_S65536x256_0_1
        (broadcastInDim S1x256 ![1] bcast_S256_S1x256_1 a4))) (broadcastInDim S65536x256 ![] bcast_S_S65536x256
        (constant S_ .f32 0x00000000#32))) a5) (broadcastInDim S65536x368 ![0, 1] bcast_S1x368_S65536x368_0_1
        (broadcastInDim S1x368 ![1] bcast_S368_S1x368_1 a6))) shapeCasts_S65536x368_S65536x16x23 : FVec Ideal S65536x16x23 .f32)
      (ix3 r j k) = (N.raw xr ⟨j * 23 + k, by omega⟩ : EReal) := by
  pointwise
  simp only [h1, ha1, ha2, ha3, ha4, ha5, ha6, ← EReal.coe_mul, ← coe_sum, ← EReal.coe_add, max_zero_real]
  rfl

/-- The greatest logit of a channel. -/
theorem greatest (v : FVec Ideal S65536x16x8 .f32) (r : Fin 65536) (j : Fin 16) :
    Host.reduce FloatOps.maximumf v (constant S_ .f32 0xFF800000#32) reducesTo_S65536x16x8_S65536x16_d2 h_S_ (ix2 r j)
      = Finset.univ.fold max (Ideal.ofBits .f32 0xFF800000#32) fun k => v (ix3 r j k) := by
  pointwise

/-- The exponentials of logits shifted by a number given. -/
theorem shifted (v : FVec Ideal S65536x16x8 .f32) (g : FVec Ideal S65536x16 .f32) (r : Fin 65536) (j : Fin 16) (a : Fin 8 → ℝ) (M : ℝ)
    (hv : ∀ k, v (ix3 r j k) = (a k : EReal)) (hg : g (ix2 r j) = (M : EReal)) (k : Fin 8) :
    (Host.exp (subf v (broadcastInDim S65536x16x8 ![0, 1, 2] bcast_S65536x16x1_S65536x16x8_0_1_2 (broadcastInDim S65536x16x1 ![0, 1]
        bcast_S65536x16_S65536x16x1_0_1 (maximumf (broadcastInDim S65536x16 ![] bcast_S_S65536x16 (constant S_ .f32 0xFF800000#32))
        g)))) : FVec Ideal S65536x16x8 .f32) (ix3 r j k) = (Real.exp (a k - M) : EReal) := by
  pointwise
  rw [hv, hg, word_bot, max_eq_right bot_le, ← EReal.coe_sub, Ideal.exp_coe]

/-- The exponentials, of logits shifted by one number for the channel. -/
theorem expo (v : FVec Ideal S65536x16x8 .f32) (r : Fin 65536) (j : Fin 16) (a : Fin 8 → ℝ)
    (hv : ∀ k, v (ix3 r j k) = (a k : EReal)) : ∃ M : ℝ, ∀ k,
    (Host.exp (subf v (broadcastInDim S65536x16x8 ![0, 1, 2] bcast_S65536x16x1_S65536x16x8_0_1_2 (broadcastInDim S65536x16x1 ![0, 1]
        bcast_S65536x16_S65536x16x1_0_1 (maximumf (broadcastInDim S65536x16 ![] bcast_S_S65536x16 (constant S_ .f32 0xFF800000#32))
        (Host.reduce FloatOps.maximumf v (constant S_ .f32 0xFF800000#32) reducesTo_S65536x16x8_S65536x16_d2 h_S_))))) :
        FVec Ideal S65536x16x8 .f32) (ix3 r j k) = (Real.exp (a k - M) : EReal) := by
  obtain ⟨M, hM⟩ := fold_max_real a
  refine ⟨M, fun k => shifted v _ r j a M hv ?_ k⟩
  rw [greatest, word_bot]
  simp only [hv]
  exact hM

/-- The extents of the bins. -/
theorem extents (e : FVec Ideal S65536x16x8 .f32) (r : Fin 65536) (j : Fin 16) (a : Fin 8 → ℝ)
    (he : ∃ M : ℝ, ∀ k, e (ix3 r j k) = (Real.exp (a k - M) : EReal)) (k : Fin 8) :
    (mulf (broadcastInDim S65536x16x8 ![] bcast_S_S65536x16x8 (constant S_ .f32 0x40000000#32)) (addf
        (broadcastInDim S65536x16x8 ![] bcast_S_S65536x16x8 (constant S_ .f32 0x38D1B717#32)) (mulf
        (broadcastInDim S65536x16x8 ![] bcast_S_S65536x16x8 (constant S_ .f32 0x3F7FCB92#32)) (Host.divf e
        (broadcastInDim S65536x16x8 ![0, 1, 2] bcast_S65536x16x1_S65536x16x8_0_1_2 (broadcastInDim S65536x16x1 ![0, 1]
        bcast_S65536x16_S65536x16x1_0_1 (Host.reduceAdd e (constant S_ .f32 0x00000000#32)
        reducesTo_S65536x16x8_S65536x16_d2 h_S_)))))) : FVec Ideal S65536x16x8 .f32) (ix3 r j k) = (ext a k : EReal) := by
  obtain ⟨M, hM⟩ := he
  have h0 : (∑ i, Real.exp (a i - M)) ≠ 0 := (Finset.sum_pos (fun i _ => Real.exp_pos _) Finset.univ_nonempty).ne'
  pointwise
  simp only [hM, word_two, word_min, word_sc, ← coe_sum]
  rw [div_real _ h0, share_shift, ← EReal.coe_mul, ← EReal.coe_add, ← EReal.coe_mul]
  rfl

/-- The slopes at the edges. -/
theorem slopes (p q : FVec Ideal S65536x16x7 .f32) (c : FVec Ideal S_ .f32) (r : Fin 65536) (j : Fin 16) (d : Fin 7 → ℝ)
    (hp : ∀ k, p (ix3 r j k) = ((d k + cD : ℝ) : EReal)) (hq : ∀ k, q (ix3 r j k) = ((d k + cD : ℝ) : EReal)) (hc : c ix0 = ((0 : ℝ) : EReal))
    (n : Fin 9) :
    (pad S65536x16x9 ![0, 0, 1] ![0, 0, 1] ![0, 0, 0] (addf (select (cmpf .une q q) (addf p (broadcastInDim S65536x16x7 ![]
        bcast_S_S65536x16x7 c)) (addf (maximumf p (broadcastInDim S65536x16x7 ![] bcast_S_S65536x16x7 c))
        (Host.log1p (Host.exp (Host.negf (Host.absf q)))))) (broadcastInDim S65536x16x7 ![] bcast_S_S65536x16x7
        (constant S_ .f32 0x38D1B717#32))) (id (constant S_ .f32 0x3F800000#32)) pads_S65536x16x7_S65536x16x9_000_000_110 h_S_ :
        FVec Ideal S65536x16x9 .f32) (ix3 r j n) = (Spline.slope d n : EReal) := by
  pointwise
  by_cases h : 1 ≤ (n : ℕ) ∧ (n : ℕ) - 1 < 7
  · have h' : 1 ≤ (n : ℕ) ∧ (n : ℕ) < 8 := by omega
    rw [dif_pos h, Spline.slope, dif_pos h', softplus, if_neg (not_not.mpr rfl), hp, hq, hc, word_min, Ideal.absf_def]
    have hl : ∀ z : ℝ, 0 < 1 + Real.exp (-max z (-z)) := fun z => by linarith [Real.exp_pos (-max z (-z))]
    rw [abs_eq_max_neg]
    simp only [max_real, ← EReal.coe_neg, Ideal.exp_coe, Ideal.log1p]
    rw [← EReal.coe_one, ← EReal.coe_add, log_real (hl _), ← EReal.coe_add, ← EReal.coe_add]
  · have h' : ¬(1 ≤ (n : ℕ) ∧ (n : ℕ) < 8) := by omega
    rw [dif_neg h, Spline.slope, dif_neg h']
    show Ideal.ofBits .f32 0x3F800000#32 = _
    simp

/-- Whether the point lies outside. -/
theorem outside (v : FVec Ideal S65536x16 .f32) (r : Fin 65536) (j : Fin 16) (x : ℝ) (hv : v (ix2 r j) = (x : EReal)) :
    ori (cmpf .ole v (broadcastInDim S65536x16 ![] bcast_S_S65536x16 (constant S_ .f32 0xBF7FBE77#32)))
      (cmpf .oge v (broadcastInDim S65536x16 ![] bcast_S_S65536x16 (constant S_ .f32 0x3F7FBE77#32))) (ix2 r j)
      = BitVec.ofBool (decide (Outside x)) := by
  pointwise
  rw [hv, word_lim, word_neg_lim]
  simp only [EReal.coe_le_coe_iff]
  by_cases h1 : x ≤ -cLim <;> by_cases h2 : cLim ≤ x <;> simp [Outside, h1, h2, IntOp.ori]

/-- A choice by whether the point lies outside. -/
theorem chosen (x : ℝ) (a b : ℝ) :
    Scalar.select (BitVec.ofBool (decide (Outside x))) (a : EReal) (b : EReal) = ((if Outside x then a else b : ℝ) : EReal) := by
  by_cases h : Outside x <;> simp [h, Scalar.select]

end Cert.ReferenceIdeal.Ops

end
-- ==== Proof.RefArrays.lean ====
/- The reference's arrays, read at an index: real numbers, given by the network and the spline. -/
module

public import proofs.«01_k».proof.Proof.Gen.ReferenceIdeal.Run
public import proofs.«01_k».proof.Proof.RefNet

@[expose] public section

set_option maxRecDepth 16384

noncomputable section

open Idealize.ShloMosaic Idealize.ShloMosaic.TcCoe Idealize.SL.Sem

namespace Cert.ReferenceIdeal.Final

open Cert.ReferenceIdeal Cert.ReferenceIdeal.Gen Cert.ReferenceIdeal.Value Cert.ReferenceIdeal.Ops Cert.Spline

variable (V0 : Valuation τ sig (Elt Ideal))

/-- Argument 0 as a float array. -/
def arg0 : FVec Ideal S65536x32 .f32 := V0 (Proc.devRef .tc main_arg0)
/-- Argument 1 as a float array. -/
def arg1 : FVec Ideal S16x256 .f32 := V0 (Proc.devRef .tc main_arg1)
/-- Argument 2 as a float array. -/
def arg2 : FVec Ideal S256 .f32 := V0 (Proc.devRef .tc main_arg2)
/-- Argument 3 as a float array. -/
def arg3 : FVec Ideal S256x256 .f32 := V0 (Proc.devRef .tc main_arg3)
/-- Argument 4 as a float array. -/
def arg4 : FVec Ideal S256 .f32 := V0 (Proc.devRef .tc main_arg4)
/-- Argument 5 as a float array. -/
def arg5 : FVec Ideal S256x368 .f32 := V0 (Proc.devRef .tc main_arg5)
/-- Argument 6 as a float array. -/
def arg6 : FVec Ideal S368 .f32 := V0 (Proc.devRef .tc main_arg6)
/-- The entries of even number. -/
def a0 : FVec Ideal S65536x16 .f32 := res_main_v0 V0
/-- The entries of odd number. -/
def a1 : FVec Ideal S65536x16 .f32 := res_main_v1 V0
/-- The last layer, split by channel. -/
def a16 : FVec Ideal S65536x16x23 .f32 := res_main_v16 V0
/-- The widths' logits. -/
def a17 : FVec Ideal S65536x16x8 .f32 := res_main_v17 V0
/-- The heights' logits. -/
def a18 : FVec Ideal S65536x16x8 .f32 := res_main_v18 V0
/-- The widths' exponentials. -/
def a26 : FVec Ideal S65536x16x8 .f32 := res_main_v26 V0
/-- The heights' exponentials. -/
def a37 : FVec Ideal S65536x16x8 .f32 := res_main_v37 V0
/-- The slopes' logits, moved. -/
def a43 : FVec Ideal S65536x16x7 .f32 := res_main_v43 V0
/-- The widths. -/
def a56 : FVec Ideal S65536x16x8 .f32 := res_main_v56 V0
/-- The heights. -/
def a58 : FVec Ideal S65536x16x8 .f32 := res_main_v58 V0
/-- The widths' edges. -/
def a63 : FVec Ideal S65536x16x9 .f32 := res_main_v63 V0
/-- The slopes. -/
def a67 : FVec Ideal S65536x16x9 .f32 := res_main_v67 V0
/-- The point, zero when outside. -/
def a73 : FVec Ideal S65536x16 .f32 := res_main_v73 V0
/-- The bin's width. -/
def a90 : FVec Ideal S65536x16 .f32 := res_main_v90 V0
/-- The bin's height. -/
def a93 : FVec Ideal S65536x16 .f32 := res_main_v93 V0
/-- The slope at the bin's left edge. -/
def a96 : FVec Ideal S65536x16 .f32 := res_main_v96 V0
/-- The slope at the bin's right edge. -/
def a100 : FVec Ideal S65536x16 .f32 := res_main_v100 V0
/-- The bin's mean slope. -/
def a101 : FVec Ideal S65536x16 .f32 := res_main_v101 V0
/-- Where the point lies in its bin. -/
def a103 : FVec Ideal S65536x16 .f32 := res_main_v103 V0
/-- That place times the rest of the bin. -/
def a106 : FVec Ideal S65536x16 .f32 := res_main_v106 V0
/-- The square of the place. -/
def a107 : FVec Ideal S65536x16 .f32 := res_main_v107 V0
/-- The denominator. -/
def a113 : FVec Ideal S65536x16 .f32 := res_main_v113 V0
/-- The rest of the bin. -/
def a130 : FVec Ideal S65536x16 .f32 := res_main_v130 V0
/-- The slopes at the right edges. -/
def right : FVec Ideal S65536x16x8 .f32 :=
  extractStridedSlice S65536x16x8 ![0, 0, 1] (a67 V0) slices_S65536x16x9_S65536x16x8_0_0_1
/-- Whether the point lies outside. -/
def a72 : IVec S65536x16 1 := res_main_v72 V0
/-- The bin, as a word. -/
def a81 : IVec S65536x16 32 := res_main_v81 V0
/-- The bin, as an index. -/
def i10 : IVec S65536x16x1x1 32 := res_main_call10_v5 V0
/-- The bin, as an index. -/
def i11 : IVec S65536x16x1x1 32 := res_main_call11_v5 V0
/-- The bin, as an index. -/
def i12 : IVec S65536x16x1x1 32 := res_main_call12_v5 V0
/-- The bin, as an index. -/
def i13 : IVec S65536x16x1x1 32 := res_main_call13_v5 V0
/-- The bin, as an index. -/
def i14 : IVec S65536x16x1x1 32 := res_main_call14_v5 V0
/-- The bin, as an index. -/
def i15 : IVec S65536x16x1x1 32 := res_main_call15_v5 V0

/-- The arguments are real: rows `X` and a network `N`. -/
structure Reads (X : Fin 65536 → Fin 32 → ℝ) (N : Net) : Prop where
  x : ∀ r k, arg0 V0 (ix2 r k) = (X r k : EReal)
  w0 : ∀ i k, arg1 V0 (ix2 i k) = (N.A0 i k : EReal)
  b0 : ∀ k, arg2 V0 (ix1 k) = (N.c0 k : EReal)
  w1 : ∀ i k, arg3 V0 (ix2 i k) = (N.A1 i k : EReal)
  b1 : ∀ k, arg4 V0 (ix1 k) = (N.c1 k : EReal)
  w2 : ∀ i k, arg5 V0 (ix2 i k) = (N.A2 i k : EReal)
  b2 : ∀ k, arg6 V0 (ix1 k) = (N.c2 k : EReal)

/-- The entries of even number. -/
theorem even_at (x : FVec Ideal S65536x32 .f32) (r : Fin 65536) (j : Fin 16) :
    Host.slice S65536x16 ![0, 0] ![1, 2] x slicesBy_S65536x32_S65536x16_0s1_0s2 (ix2 r j) = x (ix2 r ⟨j * 2, by omega⟩) := by
  pointwise
  simp only [Nat.mul_comm]

/-- The entries of odd number. -/
theorem odd_at (x : FVec Ideal S65536x32 .f32) (r : Fin 65536) (j : Fin 16) :
    Host.slice S65536x16 ![0, 1] ![1, 2] x slicesBy_S65536x32_S65536x16_0s1_1s2 (ix2 r j) = x (ix2 r ⟨1 + j * 2, by omega⟩) := by
  pointwise
  simp only [Nat.mul_comm]

/-- The first eight logits of a channel. -/
theorem widths_at (x : FVec Ideal S65536x16x23 .f32) (r : Fin 65536) (j : Fin 16) (k : Fin 8) :
    extractStridedSlice S65536x16x8 ![0, 0, 0] x slices_S65536x16x23_S65536x16x8_0_0_0 (ix3 r j k) = x (ix3 r j ⟨k, by omega⟩) := by
  pointwise

/-- The next eight logits of a channel. -/
theorem heights_at (x : FVec Ideal S65536x16x23 .f32) (r : Fin 65536) (j : Fin 16) (k : Fin 8) :
    extractStridedSlice S65536x16x8 ![0, 0, 8] x slices_S65536x16x23_S65536x16x8_0_0_8 (ix3 r j k) = x (ix3 r j ⟨8 + k, by omega⟩) := by
  pointwise

/-- The last seven logits of a channel, shifted. -/
theorem moved_at (x : FVec Ideal S65536x16x23 .f32) (r : Fin 65536) (j : Fin 16) (k : Fin 7) :
    (addf (extractStridedSlice S65536x16x7 ![0, 0, 16] x slices_S65536x16x23_S65536x16x7_0_0_16)
      (broadcastInDim S65536x16x7 ![] bcast_S_S65536x16x7 (constant S_ .f32 0x3F0A89E6#32)) : FVec Ideal S65536x16x7 .f32) (ix3 r j k)
      = x (ix3 r j ⟨16 + k, by omega⟩) + Ideal.ofBits .f32 0x3F0A89E6#32 := by
  pointwise

/-- Taking zero away changes nothing. -/
theorem less_zero (x : FVec Ideal S65536x16x7 .f32) (r : Fin 65536) (j : Fin 16) (k : Fin 7) (a : ℝ) (hx : x (ix3 r j k) = (a : EReal)) :
    (subf x (broadcastInDim S65536x16x7 ![] bcast_S_S65536x16x7 (constant S_ .f32 0x00000000#32)) : FVec Ideal S65536x16x7 .f32) (ix3 r j k)
      = (a : EReal) := by
  pointwise
  rw [hx]

/-- A point outside the interval is replaced by zero. -/
theorem inside_at (m : IVec S65536x16 1) (v : FVec Ideal S65536x16 .f32) (r : Fin 65536) (j : Fin 16) (x : ℝ)
    (hm : m (ix2 r j) = BitVec.ofBool (decide (Outside x))) (hv : v (ix2 r j) = (x : EReal)) :
    (select m (broadcastInDim S65536x16 ![] bcast_S_S65536x16 (id (constant S_ .f32 0x00000000#32))) v : FVec Ideal S65536x16 .f32) (ix2 r j)
      = (Spline.inner x : EReal) := by
  have h0 : (id (constant S_ .f32 0x00000000#32) : FVec Ideal S_ .f32) ix0 = ((0 : ℝ) : EReal) := by
    show Ideal.ofBits .f32 0x00000000#32 = _
    simp
  pointwise
  rw [hm, hv, h0]
  exact chosen x 0 x

/-- The slopes without the first. -/
theorem right_at (x : FVec Ideal S65536x16x9 .f32) (r : Fin 65536) (j : Fin 16) (k : Fin 8) :
    extractStridedSlice S65536x16x8 ![0, 0, 1] x slices_S65536x16x9_S65536x16x8_0_0_1 (ix3 r j k) = x (ix3 r j ⟨1 + k, by omega⟩) := by
  pointwise

variable {V0} {X : Fin 65536 → Fin 32 → ℝ} {N : Net} (H : Reads V0 X N) (r : Fin 65536) (j : Fin 16)

include H

/-- The points. -/
theorem a0_at : a0 V0 (ix2 r j) = (Net.pt (X r) j : EReal) := (even_at (arg0 V0) r j).trans (H.x r _)

/-- The entries that pass through. -/
theorem a1_at : a1 V0 (ix2 r j) = (X r ⟨1 + j * 2, by omega⟩ : EReal) := (odd_at (arg0 V0) r j).trans (H.x r _)

/-- The network's result. -/
theorem a16_at (k : Fin 23) : a16 V0 (ix3 r j k) = (N.raw (X r) ⟨j * 23 + k, by omega⟩ : EReal) :=
  layers N (X r) r (a1 V0) (arg1 V0) (arg2 V0) (arg3 V0) (arg4 V0) (arg5 V0) (arg6 V0) (fun i => a1_at H r i)
    H.w0 H.b0 H.w1 H.b1 H.w2 H.b2 j k

/-- The logits of the widths. -/
theorem a17_at (k : Fin 8) : a17 V0 (ix3 r j k) = (N.wlog (X r) j k : EReal) :=
  (widths_at (a16 V0) r j k).trans (a16_at H r j _)

/-- The logits of the heights. -/
theorem a18_at (k : Fin 8) : a18 V0 (ix3 r j k) = (N.hlog (X r) j k : EReal) :=
  (heights_at (a16 V0) r j k).trans (a16_at H r j _)

/-- The widths. -/
theorem a56_at (k : Fin 8) : a56 V0 (ix3 r j k) = (ext (N.wlog (X r) j) k : EReal) :=
  extents (a26 V0) r j (N.wlog (X r) j) (expo (a17 V0) r j _ (a17_at H r j)) k

/-- The heights. -/
theorem a58_at (k : Fin 8) : a58 V0 (ix3 r j k) = (ext (N.hlog (X r) j) k : EReal) :=
  extents (a37 V0) r j (N.hlog (X r) j) (expo (a18 V0) r j _ (a18_at H r j)) k

/-- The shifted logits of the derivatives. -/
theorem a43_at (k : Fin 7) : a43 V0 (ix3 r j k) = ((N.dlog (X r) j k + cD : ℝ) : EReal) := by
  refine (moved_at (a16 V0) r j k).trans ?_
  rw [a16_at H, word_d, ← EReal.coe_add]
  rfl

/-- The edges of the widths. -/
theorem a63_at (n : Fin 9) : a63 V0 (ix3 r j n) = (edge (N.wlog (X r) j) n : EReal) :=
  edges (a56 V0) r j _ (a56_at H r j) n

/-- The slopes at the edges. -/
theorem a67_at (n : Fin 9) : a67 V0 (ix3 r j n) = (Spline.slope (N.dlog (X r) j) n : EReal) :=
  slopes (a43 V0) (res_main_call2_v3 V0) (res_main_call2_cst V0) r j _ (a43_at H r j)
    (fun k => less_zero (a43 V0) r j k _ (a43_at H r j k)) (by show Ideal.ofBits .f32 0x00000000#32 = _; simp) n

/-- Which points lie outside the interval. -/
theorem a72_at : a72 V0 (ix2 r j) = BitVec.ofBool (decide (Outside (Net.pt (X r) j))) :=
  outside (a0 V0) r j _ (a0_at H r j)

/-- The point the spline is taken at. -/
theorem a73_at : a73 V0 (ix2 r j) = (Spline.inner (Net.pt (X r) j) : EReal) :=
  inside_at (a72 V0) (a0 V0) r j _ (a72_at H r j) (a0_at H r j)

/-- The bin, counted. -/
theorem a81_at : a81 V0 (ix2 r j) = BitVec.ofNat 32 (N.bin (X r) j) :=
  counted (a63 V0) (a73 V0) r j (N.wlog (X r) j) _ _ (a63_at H r j) (a73_at H r j)
    (fun n => edge_le_iff (Net.bin_spec N (X r) j) n)

/-- The bin, where it picks the left edge of the widths. -/
theorem i10_at : i10 V0 (ix4 r j 0 0) = BitVec.ofNat 32 (N.bin (X r) j) := wrapped (a81 V0) 9#32 r j _ (a81_at H r j)

/-- The bin, where it picks the left edge of the heights. -/
theorem i11_at : i11 V0 (ix4 r j 0 0) = BitVec.ofNat 32 (N.bin (X r) j) := wrapped (a81 V0) 9#32 r j _ (a81_at H r j)

/-- The bin, where it picks the width. -/
theorem i12_at : i12 V0 (ix4 r j 0 0) = BitVec.ofNat 32 (N.bin (X r) j) := wrapped (a81 V0) 8#32 r j _ (a81_at H r j)

/-- The bin, where it picks the height. -/
theorem i13_at : i13 V0 (ix4 r j 0 0) = BitVec.ofNat 32 (N.bin (X r) j) := wrapped (a81 V0) 8#32 r j _ (a81_at H r j)

/-- The bin, where it picks the slope on the left. -/
theorem i14_at : i14 V0 (ix4 r j 0 0) = BitVec.ofNat 32 (N.bin (X r) j) := wrapped (a81 V0) 9#32 r j _ (a81_at H r j)

/-- The bin, where it picks the slope on the right. -/
theorem i15_at : i15 V0 (ix4 r j 0 0) = BitVec.ofNat 32 (N.bin (X r) j) := wrapped (a81 V0) 8#32 r j _ (a81_at H r j)

/-- The bin's width. -/
theorem a90_at : a90 V0 (ix2 r j) = (ext (N.wlog (X r) j) (N.bin (X r) j) : EReal) :=
  (take8 (a56 V0) (i12 V0) r j _ (i12_at H r j)).trans (a56_at H r j _)

/-- The bin's height. -/
theorem a93_at : a93 V0 (ix2 r j) = (ext (N.hlog (X r) j) (N.bin (X r) j) : EReal) :=
  (take8 (a58 V0) (i13 V0) r j _ (i13_at H r j)).trans (a58_at H r j _)

/-- The slope at the bin's left edge. -/
theorem a96_at : a96 V0 (ix2 r j) = (Spline.slope (N.dlog (X r) j) (N.bin (X r) j) : EReal) :=
  (take9 (a67 V0) (i14 V0) r j _ (i14_at H r j)).trans (a67_at H r j _)

/-- The slopes at the bins' right edges. -/
theorem slope_right_at (k : Fin 8) : right V0 (ix3 r j k) = (Spline.slope (N.dlog (X r) j) (k + 1) : EReal) := by
  refine (right_at (a67 V0) r j k).trans ?_
  rw [a67_at H]
  exact congrArg (fun n : ℕ => ((Spline.slope (N.dlog (X r) j) n : ℝ) : EReal)) (Nat.add_comm 1 k)

/-- The slope at the bin's right edge. -/
theorem a100_at : a100 V0 (ix2 r j) = (Spline.slope (N.dlog (X r) j) (N.bin (X r) j + 1) : EReal) :=
  (take8 (right V0) (i15 V0) r j _ (i15_at H r j)).trans (slope_right_at H r j _)

end Cert.ReferenceIdeal.Final

end
-- ==== Proof.RefResults.lean ====
/- The reference's two results, read at an index. -/
module

public import proofs.«01_k».proof.Proof.RefArrays

@[expose] public section

set_option maxRecDepth 16384

noncomputable section

open Idealize.ShloMosaic Idealize.ShloMosaic.TcCoe Idealize.SL.Sem

namespace Cert.ReferenceIdeal.Final

open Cert.ReferenceIdeal Cert.ReferenceIdeal.Gen Cert.ReferenceIdeal.Value Cert.ReferenceIdeal.Ops Cert.Spline

section Entrywise

variable (a b c d : FVec Ideal S65536x16 .f32) (r : Fin 65536) (j : Fin 16)

/-- A quotient, entry by entry. -/
theorem quot_at (x y : ℝ) (hy : y ≠ 0) (ha : a (ix2 r j) = (x : EReal)) (hb : b (ix2 r j) = (y : EReal)) :
    (Host.divf a b : FVec Ideal S65536x16 .f32) (ix2 r j) = ((x / y : ℝ) : EReal) := by
  pointwise
  rw [ha, hb, div_real _ hy]

/-- A difference, entry by entry. -/
theorem diff_at (x y : ℝ) (ha : a (ix2 r j) = (x : EReal)) (hb : b (ix2 r j) = (y : EReal)) :
    (subf a b : FVec Ideal S65536x16 .f32) (ix2 r j) = ((x - y : ℝ) : EReal) := by
  pointwise
  rw [ha, hb, EReal.coe_sub]

/-- What is left of one, entry by entry. -/
theorem rest_at (x : ℝ) (ha : a (ix2 r j) = (x : EReal)) :
    (subf (broadcastInDim S65536x16 ![] bcast_S_S65536x16 (constant S_ .f32 0x3F800000#32)) a : FVec Ideal S65536x16 .f32) (ix2 r j)
      = ((1 - x : ℝ) : EReal) := by
  pointwise
  rw [ha, EReal.coe_sub, EReal.coe_one]

/-- A product, entry by entry. -/
theorem prod_at (x y : ℝ) (ha : a (ix2 r j) = (x : EReal)) (hb : b (ix2 r j) = (y : EReal)) :
    (mulf a b : FVec Ideal S65536x16 .f32) (ix2 r j) = ((x * y : ℝ) : EReal) := by
  pointwise
  rw [ha, hb, EReal.coe_mul]

/-- A sum, entry by entry. -/
theorem sum_at (x y : ℝ) (ha : a (ix2 r j) = (x : EReal)) (hb : b (ix2 r j) = (y : EReal)) :
    (addf a b : FVec Ideal S65536x16 .f32) (ix2 r j) = ((x + y : ℝ) : EReal) := by
  pointwise
  rw [ha, hb, EReal.coe_add]

/-- The double, entry by entry. -/
theorem twice_at (x : ℝ) (ha : a (ix2 r j) = (x : EReal)) :
    (mulf (broadcastInDim S65536x16 ![] bcast_S_S65536x16 (constant S_ .f32 0x40000000#32)) a : FVec Ideal S65536x16 .f32) (ix2 r j)
      = ((2 * x : ℝ) : EReal) := by
  pointwise
  rw [ha, word_two, EReal.coe_mul]

/-- A logarithm, entry by entry. -/
theorem log_at (x : ℝ) (hx : 0 < x) (ha : a (ix2 r j) = (x : EReal)) :
    (Host.log a : FVec Ideal S65536x16 .f32) (ix2 r j) = ((Real.log x : ℝ) : EReal) := by
  pointwise
  rw [ha, log_real hx]

/-- A choice by whether a point lies outside, entry by entry. -/
theorem choice_at (m : IVec S65536x16 1) (x y z : ℝ) (hm : m (ix2 r j) = BitVec.ofBool (decide (Outside z)))
    (ha : a (ix2 r j) = (x : EReal)) (hb : b (ix2 r j) = (y : EReal)) :
    (select m a b : FVec Ideal S65536x16 .f32) (ix2 r j) = ((if Outside z then x else y : ℝ) : EReal) := by
  pointwise
  rw [hm, ha, hb]
  exact chosen z x y

/-- Two arrays, laid out by turns. -/
theorem turns (k : Fin 32) :
    (shapeCast S65536x32 (concatenate S65536x16x2 2 [⟨S65536x16x1, broadcastInDim S65536x16x1 ![0, 1] bcast_S65536x16_S65536x16x1_0_1 a⟩,
      ⟨S65536x16x1, broadcastInDim S65536x16x1 ![0, 1] bcast_S65536x16_S65536x16x1_0_1 b⟩]
      concatenates_S65536x16x1_S65536x16x1_S65536x16x2_d2) shapeCasts_S65536x16x2_S65536x32 : FVec Ideal S65536x32 .f32) (ix2 r k)
      = if (k : ℕ) % 2 = 1 then b (ix2 r ⟨k / 2, by omega⟩) else a (ix2 r ⟨k / 2, by omega⟩) := by
  pointwise
  by_cases h : (k : ℕ) % 2 = 1
  · rw [dif_neg (by omega), if_pos h]
  · rw [dif_pos (by omega), if_neg h]

/-- The row's sum, as a column. -/
theorem column (x : Fin 16 → ℝ) (ha : ∀ j, a (ix2 r j) = (x j : EReal)) :
    (broadcastInDim S65536x1 ![0] bcast_S65536_S65536x1_0 (Host.reduceAdd a (constant S_ .f32 0x00000000#32)
      reducesTo_S65536x16_S65536_d1 h_S_) : FVec Ideal S65536x1 .f32) (ix2 r 0) = ((∑ j, x j : ℝ) : EReal) := by
  pointwise
  simp only [ha, ← coe_sum]

end Entrywise

variable {V0 : Valuation τ sig (Elt Ideal)} {X : Fin 65536 → Fin 32 → ℝ} {N : Net} (H : Reads V0 X N) (r : Fin 65536) (j : Fin 16)

/-- The edges of the heights. -/
def rise (V0 : Valuation τ sig (Elt Ideal)) : FVec Ideal S65536x16x9 .f32 :=
  addf (pad S65536x16x9 ![0, 0, 1] ![0, 0, 0] ![0, 0, 0] (Host.reduceWindowAdd ![1, 1, 8] ![1, 1, 1] ![0, 0, 7] ![0, 0, 0] (a58 V0)
      (broadcastInDim S_ ![] bcast_S_S_ (constant S_ .f32 0x00000000#32))
      reduceWindows_S65536x16x8_S65536x16x8_w1s1p0_0_w1s1p0_0_w8s1p7_0 h_S_) (sitofp .f32 (constantI S_ 32 0#32))
      pads_S65536x16x8_S65536x16x9_000_000_100 h_S_)
    (broadcastInDim S65536x16x9 ![] bcast_S_S65536x16x9 (constant S_ .f32 0xBF800000#32))

/-- The height at the bin's left edge. -/
def base (V0 : Valuation τ sig (Elt Ideal)) : FVec Ideal S65536x16 .f32 :=
  shapeCast S65536x16 (select (Host.reduce IntOp.andi
      (andi (cmpi .sge (i11 V0) (broadcastInDim S65536x16x1x1 ![] bcast_S_S65536x16x1x1 (constantI S_ 32 0#32)))
        (cmpi .sle (i11 V0) (broadcastInDim S65536x16x1x1 ![0, 1, 2, 3] bcast_S1x1x1x1_S65536x16x1x1_0_1_2_3
          (broadcastInDim S1x1x1x1 ![3] bcast_S1_S1x1x1x1_3 (constantI S1 32 8#32))))) (constantI S_ 1 1#1)
      reducesTo_S65536x16x1x1_S65536x16x1_d3 h_S_)
    (Host.gather gather_S65536x16x9_S65536x16x1x1_S65536x16x1_n_2_01_01_2_3_111 (rise V0) (i11 V0))
    (broadcastInDim S65536x16x1 ![] bcast_S_S65536x16x1 (constant S_ .f32 0x7FC00000#32))) shapeCasts_S65536x16x1_S65536x16

/-- The spline's values. -/
def values (V0 : Valuation τ sig (Elt Ideal)) : FVec Ideal S65536x16 .f32 :=
  select (a72 V0) (a0 V0) (addf (base V0) (Host.divf (mulf (a93 V0) (addf (mulf (a101 V0) (a107 V0)) (mulf (a96 V0) (a106 V0)))) (a113 V0)))

/-- The argument of the middle logarithm. -/
def grows (V0 : Valuation τ sig (Elt Ideal)) : FVec Ideal S65536x16 .f32 :=
  addf (addf (mulf (a100 V0) (a107 V0)) (mulf (mulf (broadcastInDim S65536x16 ![] bcast_S_S65536x16 (constant S_ .f32 0x40000000#32))
    (a101 V0)) (a106 V0))) (mulf (a96 V0) (mulf (a130 V0) (a130 V0)))

/-- The logarithms of the spline's slopes. -/
def logs (V0 : Valuation τ sig (Elt Ideal)) : FVec Ideal S65536x16 .f32 :=
  select (a72 V0) (broadcastInDim S65536x16 ![] bcast_S_S65536x16 (id (constant S_ .f32 0x00000000#32)))
    (subf (addf (mulf (broadcastInDim S65536x16 ![] bcast_S_S65536x16 (constant S_ .f32 0x40000000#32)) (Host.log (a101 V0)))
      (Host.log (grows V0))) (mulf (broadcastInDim S65536x16 ![] bcast_S_S65536x16 (constant S_ .f32 0x40000000#32)) (Host.log (a113 V0))))

/-- The first result. -/
def res0 (V0 : Valuation τ sig (Elt Ideal)) : FVec Ideal S65536x32 .f32 :=
  shapeCast S65536x32 (concatenate S65536x16x2 2
    [⟨S65536x16x1, broadcastInDim S65536x16x1 ![0, 1] bcast_S65536x16_S65536x16x1_0_1 (values V0)⟩,
      ⟨S65536x16x1, broadcastInDim S65536x16x1 ![0, 1] bcast_S65536x16_S65536x16x1_0_1 (a1 V0)⟩]
    concatenates_S65536x16x1_S65536x16x1_S65536x16x2_d2) shapeCasts_S65536x16x2_S65536x32

/-- The second result. -/
def res1 (V0 : Valuation τ sig (Elt Ideal)) : FVec Ideal S65536x1 .f32 :=
  broadcastInDim S65536x1 ![0] bcast_S65536_S65536x1_0 (Host.reduceAdd (logs V0) (constant S_ .f32 0x00000000#32)
    reducesTo_S65536x16_S65536_d1 h_S_)

include H

/-- The edges of the heights. -/
theorem rise_at (n : Fin 9) : rise V0 (ix3 r j n) = (edge (N.hlog (X r) j) n : EReal) := edges (a58 V0) r j _ (a58_at H r j) n

/-- The bin's mean slope. -/
theorem a101_at : a101 V0 (ix2 r j) = (mean (N.wlog (X r) j) (N.hlog (X r) j) (N.bin (X r) j) : EReal) :=
  quot_at (a93 V0) (a90 V0) r j _ _ (ext_pos _ _).ne' (a93_at H r j) (a90_at H r j)

/-- The place in the bin. -/
theorem a103_at : a103 V0 (ix2 r j) = (pos (N.wlog (X r) j) (Net.pt (X r) j) (N.bin (X r) j) : EReal) :=
  quot_at _ (a90 V0) r j _ _ (ext_pos _ _).ne'
    (diff_at (a73 V0) _ r j _ _ (a73_at H r j) ((take9 (a63 V0) (i10 V0) r j _ (i10_at H r j)).trans (a63_at H r j _))) (a90_at H r j)

/-- What is left of the bin from there. -/
theorem a130_at : a130 V0 (ix2 r j) = ((1 - pos (N.wlog (X r) j) (Net.pt (X r) j) (N.bin (X r) j) : ℝ) : EReal) :=
  rest_at (a103 V0) r j _ (a103_at H r j)

/-- The product of the two. -/
theorem a106_at : a106 V0 (ix2 r j) = ((pos (N.wlog (X r) j) (Net.pt (X r) j) (N.bin (X r) j)
      * (1 - pos (N.wlog (X r) j) (Net.pt (X r) j) (N.bin (X r) j)) : ℝ) : EReal) :=
  prod_at (a103 V0) _ r j _ _ (a103_at H r j) (rest_at (a103 V0) r j _ (a103_at H r j))

/-- The place's square. -/
theorem a107_at : a107 V0 (ix2 r j) = ((pos (N.wlog (X r) j) (Net.pt (X r) j) (N.bin (X r) j)
      * pos (N.wlog (X r) j) (Net.pt (X r) j) (N.bin (X r) j) : ℝ) : EReal) :=
  prod_at (a103 V0) (a103 V0) r j _ _ (a103_at H r j) (a103_at H r j)

/-- The denominator. -/
theorem a113_at : a113 V0 (ix2 r j)
    = (den (N.wlog (X r) j) (N.hlog (X r) j) (N.dlog (X r) j) (Net.pt (X r) j) (N.bin (X r) j) : EReal) :=
  sum_at (a101 V0) _ r j _ _ (a101_at H r j) (prod_at _ (a106 V0) r j _ _
    (diff_at _ _ r j _ _ (sum_at (a100 V0) (a96 V0) r j _ _ (a100_at H r j) (a96_at H r j)) (twice_at (a101 V0) r j _ (a101_at H r j)))
    (a106_at H r j))

/-- The height at the bin's left edge. -/
theorem base_at : base V0 (ix2 r j) = (edge (N.hlog (X r) j) (N.bin (X r) j) : EReal) :=
  (take9 (rise V0) (i11 V0) r j _ (i11_at H r j)).trans (rise_at H r j _)

/-- The spline's values. -/
theorem values_at : values V0 (ix2 r j) = (N.val (X r) j (N.bin (X r) j) : EReal) :=
  choice_at (a0 V0) _ r j (a72 V0) _ _ _ (a72_at H r j) (a0_at H r j) (sum_at (base V0) _ r j _ _ (base_at H r j)
    (quot_at _ (a113 V0) r j _ _ (den_pos _ _ (Net.bin_spec N (X r) j)).ne'
      (prod_at (a93 V0) _ r j _ _ (a93_at H r j) (sum_at _ _ r j _ _
        (prod_at (a101 V0) (a107 V0) r j _ _ (a101_at H r j) (a107_at H r j))
        (prod_at (a96 V0) (a106 V0) r j _ _ (a96_at H r j) (a106_at H r j)))) (a113_at H r j)))

/-- The argument of the middle logarithm. -/
theorem grows_at : grows V0 (ix2 r j)
    = (grow (N.wlog (X r) j) (N.hlog (X r) j) (N.dlog (X r) j) (Net.pt (X r) j) (N.bin (X r) j) : EReal) :=
  sum_at _ _ r j _ _ (sum_at _ _ r j _ _ (prod_at (a100 V0) (a107 V0) r j _ _ (a100_at H r j) (a107_at H r j))
      (prod_at _ (a106 V0) r j _ _ (twice_at (a101 V0) r j _ (a101_at H r j)) (a106_at H r j)))
    (prod_at (a96 V0) _ r j _ _ (a96_at H r j) (prod_at (a130 V0) (a130 V0) r j _ _ (a130_at H r j) (a130_at H r j)))

/-- The logarithms of the slopes. -/
theorem logs_at : logs V0 (ix2 r j) = (N.lsl (X r) j (N.bin (X r) j) : EReal) :=
  choice_at _ _ r j (a72 V0) 0 _ _ (a72_at H r j) (by show Ideal.ofBits .f32 0x00000000#32 = _; simp)
    (diff_at _ _ r j _ _ (sum_at _ _ r j _ _
      (twice_at _ r j _ (log_at (a101 V0) r j _ (mean_pos _ _ _) (a101_at H r j)))
      (log_at (grows V0) r j _ (grow_pos _ _ (Net.bin_spec N (X r) j)) (grows_at H r j)))
      (twice_at _ r j _ (log_at (a113 V0) r j _ (den_pos _ _ (Net.bin_spec N (X r) j)) (a113_at H r j))))

/-- The first result is the row's new entries. -/
theorem res0_at (k : Fin 32) : res0 V0 (ix2 r k) = (N.outR (X r) k : EReal) := by
  refine (turns (values V0) (a1 V0) r k).trans ?_
  rw [values_at H, a1_at H, Net.outR]
  by_cases h : (k : ℕ) % 2 = 1
  · rw [if_pos h, if_pos h]
    refine congrArg (fun c => ((X r c : ℝ) : EReal)) (Fin.ext ?_)
    show 1 + (k : ℕ) / 2 * 2 = k
    omega
  · rw [if_neg h, if_neg h]

/-- The second result is the row's sum of logarithms. -/
theorem res1_at : res1 V0 (ix2 r 0) = (N.ldR (X r) : EReal) := column (logs V0) r _ (logs_at H r)

end Cert.ReferenceIdeal.Final

end
-- ==== Proof.Precond.lean ====
/- What the precondition says: every entry of every argument is a real number. -/
module

public import proofs.«01_k».proof.Proof.Gen.Pre_finite
public import proofs.«01_k».proof.Proof.Consts
public import Idealize.ShloMosaic.Lib.Pointwise
public import Idealize.ShloMosaic.Lib.ReduceAll
public import Idealize.ShloMosaic.Lib.ValueIdx

@[expose] public section

set_option maxRecDepth 16384

noncomputable section

open Idealize.ShloMosaic Idealize.ShloMosaic.TcCoe Idealize.SL.Sem

namespace Cert.Pre_finite.Read

open Cert.Pre_finite Cert.Pre_finite.Gen Cert.Spline

/-- An extended real whose absolute value is below infinity is a real number. -/
theorem real_of_abs (x : EReal) (h : FloatOps.cmpf (F := Ideal) .olt (FloatOps.absf (F := Ideal) (φ := .f32) x)
    (Ideal.ofBits .f32 0x7F800000#32) = 1#1) : x = (x.toReal : EReal) := by
  refine (EReal.coe_toReal ?_ ?_).symm
  · rintro rfl
    revert h
    rw [word_top]
    simp [Ideal.cmpf_def, Ideal.cmp, Ideal.absf_def]
  · rintro rfl
    revert h
    rw [word_top]
    simp [Ideal.cmpf_def, Ideal.cmp, Ideal.absf_def]

/-- An array all of whose absolute values are below infinity has real entries. -/
theorem real_of {s : Shape} {axes : List (Fin s.rank)} (h : s.ReducesTo axes S_) (hb : S_.BroadcastsInDim s (![] : Fin 0 → Fin s.rank))
    (x : FVec Ideal s .f32) (e : Host.reduce IntOp.andi (cmpf .olt (Host.absf x) (broadcastInDim s ![] hb
      (constant S_ .f32 0x7F800000#32))) (constantI S_ 1 1#1) h h_S_ ix0 = 1#1) (i : s.Idx) : x i = ((x i).toReal : EReal) := by
  haveI : Subsingleton S_.Idx := ⟨fun a b => funext fun k => k.elim0⟩
  exact real_of_abs (x i) (Host.reduce_andi_all _ _ h h_S_ ix0 e i)

/-- The precondition, argument by argument. -/
theorem entries (x0 : FVec Ideal S65536x32 .f32) (x1 : FVec Ideal S16x256 .f32) (x2 : FVec Ideal S256 .f32)
    (x3 : FVec Ideal S256x256 .f32) (x4 : FVec Ideal S256 .f32) (x5 : FVec Ideal S256x368 .f32) (x6 : FVec Ideal S368 .f32)
    (e : fn (F := Ideal) x0 x1 x2 x3 x4 x5 x6 ix0 = 1#1) :
    (∀ i, x0 i = ((x0 i).toReal : EReal)) ∧ (∀ i, x1 i = ((x1 i).toReal : EReal)) ∧ (∀ i, x2 i = ((x2 i).toReal : EReal))
      ∧ (∀ i, x3 i = ((x3 i).toReal : EReal)) ∧ (∀ i, x4 i = ((x4 i).toReal : EReal)) ∧ (∀ i, x5 i = ((x5 i).toReal : EReal))
      ∧ (∀ i, x6 i = ((x6 i).toReal : EReal)) := by
  dsimp only [fn, fn_part1] at e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨real_of _ _ x0 h0, real_of _ _ x1 h1, real_of _ _ x2 h2, real_of _ _ x3 h3, real_of _ _ x4 h4, real_of _ _ x5 h5,
    real_of _ _ x6 h6⟩

end Cert.Pre_finite.Read

end
-- ==== Proof.Algebra.lean ====
/- The kernel and the reference end with equal results. -/
module

public import proofs.«01_k».proof.Proof.Gen.KernelIdeal.Value
public import proofs.«01_k».proof.Proof.KernelFinal
public import proofs.«01_k».proof.Proof.RefResults
public import proofs.«01_k».proof.Proof.Precond
public import proofs.«01_k».proof.Defs

@[expose] public section

set_option maxRecDepth 16384

noncomputable section

open Idealize.ShloMosaic Idealize.ShloMosaic.TcCoe Idealize.SL.Sem

namespace Cert.Agree

open Cert.Spline

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)
  (c : Dev KernelIdeal.nD)

/-- The kernel's arguments on device `c`, as float arrays. -/
def k0 : FVec Ideal KernelIdeal.S65536x32 .f32 := m ((c.tc : Thread KernelIdeal.nD KernelIdeal.τ).loc KernelIdeal.main_arg0)
/-- The first weights. -/
def k1 : FVec Ideal KernelIdeal.S16x256 .f32 := m ((c.tc : Thread KernelIdeal.nD KernelIdeal.τ).loc KernelIdeal.main_arg1)
/-- The first biases. -/
def k2 : FVec Ideal KernelIdeal.S256 .f32 := m ((c.tc : Thread KernelIdeal.nD KernelIdeal.τ).loc KernelIdeal.main_arg2)
/-- The second weights. -/
def k3 : FVec Ideal KernelIdeal.S256x256 .f32 := m ((c.tc : Thread KernelIdeal.nD KernelIdeal.τ).loc KernelIdeal.main_arg3)
/-- The second biases. -/
def k4 : FVec Ideal KernelIdeal.S256 .f32 := m ((c.tc : Thread KernelIdeal.nD KernelIdeal.τ).loc KernelIdeal.main_arg4)
/-- The last weights. -/
def k5 : FVec Ideal KernelIdeal.S256x368 .f32 := m ((c.tc : Thread KernelIdeal.nD KernelIdeal.τ).loc KernelIdeal.main_arg5)
/-- The last biases. -/
def k6 : FVec Ideal KernelIdeal.S368 .f32 := m ((c.tc : Thread KernelIdeal.nD KernelIdeal.τ).loc KernelIdeal.main_arg6)

/-- The rows, as real numbers. -/
def rows (r : Fin 65536) (k : Fin 32) : ℝ := (k0 m c (ix2 r k)).toReal
/-- The network, as real numbers. -/
def net : Net where
  A0 i k := (k1 m c (ix2 i k)).toReal
  c0 k := (k2 m c (ix1 k)).toReal
  A1 i k := (k3 m c (ix2 i k)).toReal
  c1 k := (k4 m c (ix1 k)).toReal
  A2 i k := (k5 m c (ix2 i k)).toReal
  c2 k := (k6 m c (ix1 k)).toReal

/-- Under the precondition the kernel's arguments are these real numbers. -/
theorem holds (h : Pre_KernelIdeal_finite m) : KernelIdeal.Final.Holds m c (rows m c) (net m c) := by
  obtain ⟨h0, h1, h2, h3, h4, h5, h6⟩ := Pre_finite.Read.entries (k0 m c) (k1 m c) (k2 m c) (k3 m c) (k4 m c) (k5 m c) (k6 m c)
    (congrFun (h c) ix0)
  exact ⟨fun r k => h0 (ix2 r k), fun i k => h1 (ix2 i k), fun k => h2 (ix1 k), fun i k => h3 (ix2 i k), fun k => h4 (ix1 k),
    fun i k => h5 (ix2 i k), fun k => h6 (ix1 k)⟩

/-- What the reference reads on device `c`. -/
def start : Valuation ReferenceIdeal.τ ReferenceIdeal.sig (Elt Ideal) := StableHlo.launchContents m' c

/-- The reference's arguments are the same real numbers. -/
theorem reads (h : Pre_KernelIdeal_finite m) (e0 : ReferenceIdeal.Final.arg0 (start m' c) = k0 m c)
    (e1 : ReferenceIdeal.Final.arg1 (start m' c) = k1 m c) (e2 : ReferenceIdeal.Final.arg2 (start m' c) = k2 m c)
    (e3 : ReferenceIdeal.Final.arg3 (start m' c) = k3 m c) (e4 : ReferenceIdeal.Final.arg4 (start m' c) = k4 m c)
    (e5 : ReferenceIdeal.Final.arg5 (start m' c) = k5 m c) (e6 : ReferenceIdeal.Final.arg6 (start m' c) = k6 m c) :
    ReferenceIdeal.Final.Reads (start m' c) (rows m c) (net m c) := by
  have H := holds m c h
  exact ⟨fun r k => (congrFun e0 _).trans (H.x r k), fun i k => (congrFun e1 _).trans (H.w0 i k),
    fun k => (congrFun e2 _).trans (H.b0 k), fun i k => (congrFun e3 _).trans (H.w1 i k), fun k => (congrFun e4 _).trans (H.b1 k),
    fun i k => (congrFun e5 _).trans (H.w2 i k), fun k => (congrFun e6 _).trans (H.b2 k)⟩

/-- The reference's first result. -/
theorem first {V0 : Valuation ReferenceIdeal.τ ReferenceIdeal.sig (Elt Ideal)} {X : Fin 65536 → Fin 32 → ℝ} {N : Net}
    (H : ReferenceIdeal.Final.Reads V0 X N) : ReferenceIdeal.Final.res0 V0 = KernelIdeal.Final.out X N := by
  funext y
  idx_vars y
  exact ReferenceIdeal.Final.res0_at H y0 y1

/-- The reference's second result. -/
theorem second {V0 : Valuation ReferenceIdeal.τ ReferenceIdeal.sig (Elt Ideal)} {X : Fin 65536 → Fin 32 → ℝ} {N : Net}
    (H : ReferenceIdeal.Final.Reads V0 X N) : ReferenceIdeal.Final.res1 V0 = KernelIdeal.Final.ld X N := by
  funext y
  idx_vars y
  obtain rfl : y1 = 0 := Subsingleton.elim _ _
  exact ReferenceIdeal.Final.res1_at H y0

/-- The two programs end with equal results, from arguments that are real numbers. -/
theorem algebraic : Cert.algebraic_KernelIdeal_ReferenceIdeal_pre_finite := by
  intro m g m' g' hpre hargs
  have R : ∀ c, ReferenceIdeal.Final.Reads (start m' c) (rows m c) (net m c) := fun c => by
    obtain ⟨e0, e1, e2, e3, e4, e5, e6⟩ := hargs c
    exact reads m m' c hpre e0 e1 e2 e3 e4 e5 e6
  refine ⟨fun c => KernelIdeal.Final.out (rows m c) (net m c), fun c => KernelIdeal.Final.ld (rows m c) (net m c), ?_, ?_⟩
  · refine (θ_run KernelIdeal.defs _ _).mono (fun r h c => ?_) (KernelIdeal.Value.run_blocks (F := Ideal) m g)
    obtain ⟨o, l, kept⟩ := h c
    exact ⟨o.trans (KernelIdeal.Final.final10 (holds m c hpre)), l.trans (KernelIdeal.Final.final11 (holds m c hpre)), kept⟩
  · refine (θ_run ReferenceIdeal.defs _ _).mono (fun r h c => ?_) (ReferenceIdeal.Value.run (F := Ideal) m' g')
    obtain ⟨o, l, kept⟩ := h c
    exact ⟨o.trans (first (R c)), l.trans (second (R c)), kept⟩

/-- The reference runs and keeps its arguments; it has no semaphore. -/
theorem reference : Cert.quiescent_ReferenceIdeal := fun m g _ =>
  (θ_run ReferenceIdeal.defs _ _).mono (fun r h => ⟨fun c => (h c).2.2, sem_eq_zero_of_no_sems (by decide) r.2⟩)
    (ReferenceIdeal.Value.run (F := Ideal) m g)

end Cert.Agree

end
-- ==== Proof.lean ====
/- The certificate: the kernel, its ideal form and the reference each run and keep their arguments, the ideal form is the kernel, and
   the two programs end with equal results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- All the claims. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ, fun m ρ _ => Cert.KernelIdeal.Gen.frame m ρ,
    Cert.Agree.reference, fun m ρ _ => Cert.Agree.reference m ρ trivial, trivial, Cert.Agree.algebraic⟩

end Cert.Proof

end
